-- ==== Defs.lean ====
def Pre_Kernel (m : (ℓ : Loc Cert.Kernel.nD Cert.Kernel.τ Cert.Kernel.sig) → Buf (Elt Bits) ℓ) : Prop :=
  True

def Pre_Kernel_distinct [hPre_distinct : Cert.Pre_distinct.Facts] (m : (ℓ : Loc Cert.Kernel.nD Cert.Kernel.τ Cert.Kernel.sig) → Buf (Elt Bits) ℓ) : Prop :=
  ∀ c : Dev Cert.Kernel.nD,
    (Cert.Pre_distinct.fn (F := Bits) (m ((c.tc : Thread Cert.Kernel.nD Cert.Kernel.τ).loc Cert.Kernel.main_arg0))) = (fun _ => 1#1)

def Pre_KernelIdeal [hPre_distinct : Cert.Pre_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_distinct.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct [hPre_distinct : Cert.Pre_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Kernel_pre_distinct [hKernel : Cert.Kernel.Facts] [hPre_distinct : Cert.Pre_distinct.Facts] : Prop :=
  ∀ (m : (ℓ : Loc Cert.Kernel.nD Cert.Kernel.τ Cert.Kernel.sig) → Buf (Elt Bits) ℓ) (g : Dev Cert.Kernel.nD → PrngReg), Pre_Kernel_distinct m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_distinct [hReferenceIdeal : Cert.ReferenceIdeal.Facts] [hPre_distinct : Cert.Pre_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_distinct : Cert.Pre_distinct.Facts),
    quiescent_Kernel (hKernel := hKernel)
    ∧ quiescent_Kernel_pre_distinct (hKernel := hKernel) (hPre_distinct := hPre_distinct)
    ∧ quiescent_KernelIdeal (hKernelIdeal := hKernelIdeal) (hPre_distinct := hPre_distinct)
    ∧ quiescent_ReferenceIdeal (hReferenceIdeal := hReferenceIdeal)
    ∧ quiescent_ReferenceIdeal_pre_distinct (hReferenceIdeal := hReferenceIdeal) (hPre_distinct := hPre_distinct)
    ∧ preserves_Kernel_KernelIdeal
    ∧ algebraic_KernelIdeal_ReferenceIdeal (hKernelIdeal := hKernelIdeal) (hReferenceIdeal := hReferenceIdeal) (hPre_distinct := hPre_distinct)
-- ==== Pre_distinct.lean ====
abbrev S16384x256 : Shape := ⟨2, ![16384, 256]⟩
abbrev S1024x256 : Shape := ⟨2, ![1024, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩
abbrev S1024x1 : Shape := ⟨2, ![1024, 1]⟩

class Facts : Prop where
  slices_S16384x256_S1024x256_0_0 : S16384x256.Slices ![0, 0] S1024x256
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S1024x256_S1024_d1 : S1024x256.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  transposes_S1024x256_S256x1024_1_0 : S1024x256.Transposes [1, 0] S256x1024
  bcast_S_S16384x1024 : S_.BroadcastsInDim S16384x1024 (![] : Fin 0 → Fin S16384x1024.rank)
  reducesTo_S16384x1024_S16384_d1 : S16384x1024.ReducesTo [1] S16384
  natLt_1_32 : 1 < 32
  bcast_S_S16384 : S_.BroadcastsInDim S16384 (![] : Fin 0 → Fin S16384.rank)
  reducesTo_S16384_S_d0 : S16384.ReducesTo [0] S_
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S_S1024x1 : S_.BroadcastsInDim S1024x1 (![] : Fin 0 → Fin S1024x1.rank)
  bcast_S_S16384x256 : S_.BroadcastsInDim S16384x256 (![] : Fin 0 → Fin S16384x256.rank)
  reducesTo_S16384x256_S_d0_1 : S16384x256.ReducesTo [0, 1] S_
  dot_S16384x256_S256x1024_S16384x1024_1_0_0_1_n_n_wf : DotDims.WF S16384x256 S256x1024 S16384x1024 [1] [0] [0] [1] [] []
  scatter_S1024x256_S16384x1_S16384x256_1_0_0_1_wf : ScatterDims.WF S1024x256 S16384x1 S16384x256 [1] [0] [0] 1
  scatter_S1024_S16384x1_S16384_n_0_0_1_wf : ScatterDims.WF S1024 S16384x1 S16384 [] [0] [0] 1

variable [Facts]

variable {F : FTy → Type} [FloatOps F]
def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def scatter_S1024x256_S16384x1_S16384x256_1_0_0_1 : ScatterDims S1024x256 S16384x1 S16384x256 where
  updateWindowDims := [1]
  insertedWindowDims := [0]
  scatterDimsToOperandDims := [0]
  indexVectorDim := 1
  wf := scatter_S1024x256_S16384x1_S16384x256_1_0_0_1_wf
def scatter_S1024_S16384x1_S16384_n_0_0_1 : ScatterDims S1024 S16384x1 S16384 where
  updateWindowDims := []
  insertedWindowDims := [0]
  scatterDimsToOperandDims := [0]
  indexVectorDim := 1
  wf := scatter_S1024_S16384x1_S16384_n_0_0_1_wf

def fn_argmin {F : FTy → Type} [FloatOps F] (arg0 : FVec F S16384x1024 .f32) : IVec S16384 32 :=
  let v0 : IVec S16384x1024 32 := iotaInDim S16384x1024 32 1
  let cst : FVec F S_ .f32 := constant S_ .f32 0x7F800000#32
  let c : IVec S_ 32 := constantI S_ 32 0#32
  let v1_0 : FVec F S16384 .f32 := (fun x y u v j => (Host.argReduce reducer_argmin_f32_i32 x y u v reducesTo_S16384x1024_S16384_d1 h_S_ j).1) arg0 v0 cst c
  let v1_1 : IVec S16384 32 := (fun x y u v j => (Host.argReduce reducer_argmin_f32_i32 x y u v reducesTo_S16384x1024_S16384_d1 h_S_ j).2) arg0 v0 cst c
  v1_1

def fn_where {F : FTy → Type} [FloatOps F] (arg0 : IVec S1024x1 1) (arg1 : FVec F S1024x256 .f32) (arg2 : FVec F S1024x256 .f32) : FVec F S1024x256 .f32 :=
  let v0 : IVec S1024x256 1 := broadcastInDim S1024x256 ![0, 1] bcast_S1024x1_S1024x256_0_1 arg0
  let v1 : FVec F S1024x256 .f32 := select v0 arg1 arg2
  v1

def fn_part23 {F : FTy → Type} [FloatOps F] (main_arg0 : FVec F S16384x256 .f32) (main_v393 : IVec S_ 1) (main_v424 : FVec F S16384x1024 .f32) (main_v426 : FVec F S16384x1 .f32) : IVec S_ 1 :=
  let main_v427 : FVec F S16384x1024 .f32 := broadcastInDim S16384x1024 ![0, 1] bcast_S16384x1_S16384x1024_0_1 main_v426
  let main_v428 : IVec S16384x1024 1 := cmpf .oeq main_v424 main_v427
  let main_v429 : IVec S16384x1024 32 := (extui 32 · natLt_1_32) main_v428
  let main_c_123 : IVec S_ 32 := constantI S_ 32 0#32
  let main_v430 : IVec S16384 32 := (fun x v => Host.reduce IntOp.addi x v reducesTo_S16384x1024_S16384_d1 h_S_) main_v429 main_c_123
  let main_c_124 : IVec S_ 32 := constantI S_ 32 1#32
  let main_v431 : IVec S16384 32 := broadcastInDim S16384 ![] bcast_S_S16384 main_c_124
  let main_v432 : IVec S16384 1 := cmpi .eq main_v430 main_v431
  let main_c_125 : IVec S_ 1 := constantI S_ 1 1#1
  let main_v433 : IVec S_ 1 := (fun x v => Host.reduce IntOp.andi x v reducesTo_S16384_S_d0 h_S_) main_v432 main_c_125
  let main_v434 : IVec S_ 1 := andi main_v393 main_v433
  let main_v435 : FVec F S16384x256 .f32 := Host.absf main_arg0
  let main_cst_126 : FVec F S_ .f32 := constant S_ .f32 0x7F800000#32
  let main_v436 : FVec F S16384x256 .f32 := broadcastInDim S16384x256 ![] bcast_S_S16384x256 main_cst_126
  let main_v437 : IVec S16384x256 1 := cmpf .olt main_v435 main_v436
  let main_c_127 : IVec S_ 1 := constantI S_ 1 1#1
  let main_v438 : IVec S_ 1 := (fun x v => Host.reduce IntOp.andi x v reducesTo_S16384x256_S_d0_1 h_S_) main_v437 main_c_127
  let main_v439 : IVec S_ 1 := andi main_v434 main_v438
  main_v439

def fn_part22 {F : FTy → Type} [FloatOps F] (main_arg0 : FVec F S16384x256 .f32) (main_v369 : FVec F S1024x256 .f32) (main_v393 : IVec S_ 1) (main_v406 : FVec F S1024x256 .f32) (main_v407 : FVec F S1024x1 .f32) : IVec S_ 1 :=
  let main_cst_118 : FVec F S_ .f32 := constant S_ .f32 0x00000000#32
  let main_v408 : FVec F S1024x1 .f32 := broadcastInDim S1024x1 ![] bcast_S_S1024x1 main_cst_118
  let main_v409 : IVec S1024x1 1 := cmpf .ogt main_v407 main_v408
  let main_v410 : FVec F S1024x256 .f32 := fn_where (F := F) main_v409 main_v406 main_v369
  let main_v411 : FVec F S16384x256 .f32 := mulf main_arg0 main_arg0
  let main_cst_119 : FVec F S_ .f32 := constant S_ .f32 0x00000000#32
  let main_v412 : FVec F S16384 .f32 := (fun x v => Host.reduceAdd x v reducesTo_S16384x256_S16384_d1 h_S_) main_v411 main_cst_119
  let main_v413 : FVec F S16384x1 .f32 := broadcastInDim S16384x1 ![0] bcast_S16384_S16384x1_0 main_v412
  let main_v414 : FVec F S1024x256 .f32 := mulf main_v410 main_v410
  let main_cst_120 : FVec F S_ .f32 := constant S_ .f32 0x00000000#32
  let main_v415 : FVec F S1024 .f32 := (fun x v => Host.reduceAdd x v reducesTo_S1024x256_S1024_d1 h_S_) main_v414 main_cst_120
  let main_v416 : FVec F S1x1024 .f32 := broadcastInDim S1x1024 ![1] bcast_S1024_S1x1024_1 main_v415
  let main_v417 : FVec F S16384x1024 .f32 := broadcastInDim S16384x1024 ![0, 1] bcast_S16384x1_S16384x1024_0_1 main_v413
  let main_v418 : FVec F S16384x1024 .f32 := broadcastInDim S16384x1024 ![0, 1] bcast_S1x1024_S16384x1024_0_1 main_v416
  let main_v419 : FVec F S16384x1024 .f32 := addf main_v417 main_v418
  let main_v420 : FVec F S256x1024 .f32 := (transpose S256x1024 [1, 0] · transposes_S1024x256_S256x1024_1_0) main_v410
  let main_v421 : FVec F S16384x1024 .f32 := (fun l r => Host.dotGeneral dot_S16384x256_S256x1024_S16384x1024_1_0_0_1_n_n none l r) main_arg0 main_v420
  let main_cst_121 : FVec F S_ .f32 := constant S_ .f32 0x40000000#32
  let main_v422 : FVec F S16384x1024 .f32 := broadcastInDim S16384x1024 ![] bcast_S_S16384x1024 main_cst_121
  let main_v423 : FVec F S16384x1024 .f32 := mulf main_v422 main_v421
  let main_v424 : FVec F S16384x1024 .f32 := subf main_v419 main_v423
  let main_cst_122 : FVec F S_ .f32 := constant S_ .f32 0x7F800000#32
  let main_v425 : FVec F S16384 .f32 := (fun x v => Host.reduce FloatOps.minimumf x v reducesTo_S16384x1024_S16384_d1 h_S_) main_v424 main_cst_122
  let main_v426 : FVec F S16384x1 .f32 := broadcastInDim S16384x1 ![0] bcast_S16384_S16384x1_0 main_v425
  fn_part23 (F := F) main_arg0 main_v393 main_v424 main_v426

def fn_part21 {F : FTy → Type} [FloatOps F] (main_arg0 : FVec F S16384x256 .f32) (main_v352 : IVec S_ 1) (main_v369 : FVec F S1024x256 .f32) (main_v383 : FVec F S16384x1024 .f32) (main_v389 : IVec S16384 32) : IVec S_ 1 :=
  let main_c_112 : IVec S_ 32 := constantI S_ 32 1#32
  let main_v390 : IVec S16384 32 := broadcastInDim S16384 ![] bcast_S_S16384 main_c_112
  let main_v391 : IVec S16384 1 := cmpi .eq main_v389 main_v390
  let main_c_113 : IVec S_ 1 := constantI S_ 1 1#1
  let main_v392 : IVec S_ 1 := (fun x v => Host.reduce IntOp.andi x v reducesTo_S16384_S_d0 h_S_) main_v391 main_c_113
  let main_v393 : IVec S_ 1 := andi main_v352 main_v392
  let main_v394 : IVec S16384 32 := fn_argmin (F := F) main_v383
  let main_cst_114 : FVec F S_ .f32 := constant S_ .f32 0x00000000#32
  let main_v395 : FVec F S1024x256 .f32 := broadcastInDim S1024x256 ![] bcast_S_S1024x256 main_cst_114
  let main_v396 : IVec S16384x1 32 := broadcastInDim S16384x1 ![0] bcast_S16384_S16384x1_0 main_v394
  let main_v397 : FVec F S1024x256 .f32 := (fun x i u => Host.scatterAdd scatter_S1024x256_S16384x1_S16384x256_1_0_0_1 x i u) main_v395 main_v396 main_arg0
  let main_cst_115 : FVec F S_ .f32 := constant S_ .f32 0x3F800000#32
  let main_v398 : FVec F S16384 .f32 := broadcastInDim S16384 ![] bcast_S_S16384 main_cst_115
  let main_cst_116 : FVec F S_ .f32 := constant S_ .f32 0x00000000#32
  let main_v399 : FVec F S1024 .f32 := broadcastInDim S1024 ![] bcast_S_S1024 main_cst_116
  let main_v400 : IVec S16384x1 32 := broadcastInDim S16384x1 ![0] bcast_S16384_S16384x1_0 main_v394
  let main_v401 : FVec F S1024 .f32 := (fun x i u => Host.scatterAdd scatter_S1024_S16384x1_S16384_n_0_0_1 x i u) main_v399 main_v400 main_v398
  let main_cst_117 : FVec F S_ .f32 := constant S_ .f32 0x3F800000#32
  let main_v402 : FVec F S1024 .f32 := broadcastInDim S1024 ![] bcast_S_S1024 main_cst_117
  let main_v403 : FVec F S1024 .f32 := maximumf main_v401 main_v402
  let main_v404 : FVec F S1024x1 .f32 := broadcastInDim S1024x1 ![0] bcast_S1024_S1024x1_0 main_v403
  let main_v405 : FVec F S1024x256 .f32 := broadcastInDim S1024x256 ![0, 1] bcast_S1024x1_S1024x256_0_1 main_v404
  let main_v406 : FVec F S1024x256 .f32 := Host.divf main_v397 main_v405
  let main_v407 : FVec F S1024x1 .f32 := broadcastInDim S1024x1 ![0] bcast_S1024_S1024x1_0 main_v401
  fn_part22 (F := F) main_arg0 main_v369 main_v393 main_v406 main_v407

def fn_part20 {F : FTy → Type} [FloatOps F] (main_arg0 : FVec F S16384x256 .f32) (main_v352 : IVec S_ 1) (main_v369 : FVec F S1024x256 .f32) (main_v370 : FVec F S16384x256 .f32) : IVec S_ 1 :=
  let main_cst_107 : FVec F S_ .f32 := constant S_ .f32 0x00000000#32
  let main_v371 : FVec F S16384 .f32 := (fun x v => Host.reduceAdd x v reducesTo_S16384x256_S16384_d1 h_S_) main_v370 main_cst_107
  let main_v372 : FVec F S16384x1 .f32 := broadcastInDim S16384x1 ![0] bcast_S16384_S16384x1_0 main_v371
  let main_v373 : FVec F S1024x256 .f32 := mulf main_v369 main_v369
  let main_cst_108 : FVec F S_ .f32 := constant S_ .f32 0x00000000#32
  let main_v374 : FVec F S1024 .f32 := (fun x v => Host.reduceAdd x v reducesTo_S1024x256_S1024_d1 h_S_) main_v373 main_cst_108
  let main_v375 : FVec F S1x1024 .f32 := broadcastInDim S1x1024 ![1] bcast_S1024_S1x1024_1 main_v374
  let main_v376 : FVec F S16384x1024 .f32 := broadcastInDim S16384x1024 ![0, 1] bcast_S16384x1_S16384x1024_0_1 main_v372
  let main_v377 : FVec F S16384x1024 .f32 := broadcastInDim S16384x1024 ![0, 1] bcast_S1x1024_S16384x1024_0_1 main_v375
  let main_v378 : FVec F S16384x1024 .f32 := addf main_v376 main_v377
  let main_v379 : FVec F S256x1024 .f32 := (transpose S256x1024 [1, 0] · transposes_S1024x256_S256x1024_1_0) main_v369
  let main_v380 : FVec F S16384x1024 .f32 := (fun l r => Host.dotGeneral dot_S16384x256_S256x1024_S16384x1024_1_0_0_1_n_n none l r) main_arg0 main_v379
  let main_cst_109 : FVec F S_ .f32 := constant S_ .f32 0x40000000#32
  let main_v381 : FVec F S16384x1024 .f32 := broadcastInDim S16384x1024 ![] bcast_S_S16384x1024 main_cst_109
  let main_v382 : FVec F S16384x1024 .f32 := mulf main_v381 main_v380
  let main_v383 : FVec F S16384x1024 .f32 := subf main_v378 main_v382
  let main_cst_110 : FVec F S_ .f32 := constant S_ .f32 0x7F800000#32
  let main_v384 : FVec F S16384 .f32 := (fun x v => Host.reduce FloatOps.minimumf x v reducesTo_S16384x1024_S16384_d1 h_S_) main_v383 main_cst_110
  let main_v385 : FVec F S16384x1 .f32 := broadcastInDim S16384x1 ![0] bcast_S16384_S16384x1_0 main_v384
  let main_v386 : FVec F S16384x1024 .f32 := broadcastInDim S16384x1024 ![0, 1] bcast_S16384x1_S16384x1024_0_1 main_v385
  let main_v387 : IVec S16384x1024 1 := cmpf .oeq main_v383 main_v386
  let main_v388 : IVec S16384x1024 32 := (extui 32 · natLt_1_32) main_v387
  let main_c_111 : IVec S_ 32 := constantI S_ 32 0#32
  let main_v389 : IVec S16384 32 := (fun x v => Host.reduce IntOp.addi x v reducesTo_S16384x1024_S16384_d1 h_S_) main_v388 main_c_111
  fn_part21 (F := F) main_arg0 main_v352 main_v369 main_v383 main_v389

def fn_part19 {F : FTy → Type} [FloatOps F] (main_arg0 : FVec F S16384x256 .f32) (main_v311 : IVec S_ 1) (main_v328 : FVec F S1024x256 .f32) (main_v342 : FVec F S16384x1024 .f32) (main_v351 : IVec S_ 1) : IVec S_ 1 :=
  let main_v352 : IVec S_ 1 := andi main_v311 main_v351
  let main_v353 : IVec S16384 32 := fn_argmin (F := F) main_v342
  let main_cst_102 : FVec F S_ .f32 := constant S_ .f32 0x00000000#32
  let main_v354 : FVec F S1024x256 .f32 := broadcastInDim S1024x256 ![] bcast_S_S1024x256 main_cst_102
  let main_v355 : IVec S16384x1 32 := broadcastInDim S16384x1 ![0] bcast_S16384_S16384x1_0 main_v353
  let main_v356 : FVec F S1024x256 .f32 := (fun x i u => Host.scatterAdd scatter_S1024x256_S16384x1_S16384x256_1_0_0_1 x i u) main_v354 main_v355 main_arg0
  let main_cst_103 : FVec F S_ .f32 := constant S_ .f32 0x3F800000#32
  let main_v357 : FVec F S16384 .f32 := broadcastInDim S16384 ![] bcast_S_S16384 main_cst_103
  let main_cst_104 : FVec F S_ .f32 := constant S_ .f32 0x00000000#32
  let main_v358 : FVec F S1024 .f32 := broadcastInDim S1024 ![] bcast_S_S1024 main_cst_104
  let main_v359 : IVec S16384x1 32 := broadcastInDim S16384x1 ![0] bcast_S16384_S16384x1_0 main_v353
  let main_v360 : FVec F S1024 .f32 := (fun x i u => Host.scatterAdd scatter_S1024_S16384x1_S16384_n_0_0_1 x i u) main_v358 main_v359 main_v357
  let main_cst_105 : FVec F S_ .f32 := constant S_ .f32 0x3F800000#32
  let main_v361 : FVec F S1024 .f32 := broadcastInDim S1024 ![] bcast_S_S1024 main_cst_105
  let main_v362 : FVec F S1024 .f32 := maximumf main_v360 main_v361
  let main_v363 : FVec F S1024x1 .f32 := broadcastInDim S1024x1 ![0] bcast_S1024_S1024x1_0 main_v362
  let main_v364 : FVec F S1024x256 .f32 := broadcastInDim S1024x256 ![0, 1] bcast_S1024x1_S1024x256_0_1 main_v363
  let main_v365 : FVec F S1024x256 .f32 := Host.divf main_v356 main_v364
  let main_v366 : FVec F S1024x1 .f32 := broadcastInDim S1024x1 ![0] bcast_S1024_S1024x1_0 main_v360
  let main_cst_106 : FVec F S_ .f32 := constant S_ .f32 0x00000000#32
  let main_v367 : FVec F S1024x1 .f32 := broadcastInDim S1024x1 ![] bcast_S_S1024x1 main_cst_106
  let main_v368 : IVec S1024x1 1 := cmpf .ogt main_v366 main_v367
  let main_v369 : FVec F S1024x256 .f32 := fn_where (F := F) main_v368 main_v365 main_v328
  let main_v370 : FVec F S16384x256 .f32 := mulf main_arg0 main_arg0
  fn_part20 (F := F) main_arg0 main_v352 main_v369 main_v370

def fn_part18 {F : FTy → Type} [FloatOps F] (main_arg0 : FVec F S16384x256 .f32) (main_v311 : IVec S_ 1) (main_v328 : FVec F S1024x256 .f32) (main_v331 : FVec F S16384x1 .f32) (main_v332 : FVec F S1024x256 .f32) (main_cst_96 : FVec F S_ .f32) : IVec S_ 1 :=
  let main_v333 : FVec F S1024 .f32 := (fun x v => Host.reduceAdd x v reducesTo_S1024x256_S1024_d1 h_S_) main_v332 main_cst_96
  let main_v334 : FVec F S1x1024 .f32 := broadcastInDim S1x1024 ![1] bcast_S1024_S1x1024_1 main_v333
  let main_v335 : FVec F S16384x1024 .f32 := broadcastInDim S16384x1024 ![0, 1] bcast_S16384x1_S16384x1024_0_1 main_v331
  let main_v336 : FVec F S16384x1024 .f32 := broadcastInDim S16384x1024 ![0, 1] bcast_S1x1024_S16384x1024_0_1 main_v334
  let main_v337 : FVec F S16384x1024 .f32 := addf main_v335 main_v336
  let main_v338 : FVec F S256x1024 .f32 := (transpose S256x1024 [1, 0] · transposes_S1024x256_S256x1024_1_0) main_v328
  let main_v339 : FVec F S16384x1024 .f32 := (fun l r => Host.dotGeneral dot_S16384x256_S256x1024_S16384x1024_1_0_0_1_n_n none l r) main_arg0 main_v338
  let main_cst_97 : FVec F S_ .f32 := constant S_ .f32 0x40000000#32
  let main_v340 : FVec F S16384x1024 .f32 := broadcastInDim S16384x1024 ![] bcast_S_S16384x1024 main_cst_97
  let main_v341 : FVec F S16384x1024 .f32 := mulf main_v340 main_v339
  let main_v342 : FVec F S16384x1024 .f32 := subf main_v337 main_v341
  let main_cst_98 : FVec F S_ .f32 := constant S_ .f32 0x7F800000#32
  let main_v343 : FVec F S16384 .f32 := (fun x v => Host.reduce FloatOps.minimumf x v reducesTo_S16384x1024_S16384_d1 h_S_) main_v342 main_cst_98
  let main_v344 : FVec F S16384x1 .f32 := broadcastInDim S16384x1 ![0] bcast_S16384_S16384x1_0 main_v343
  let main_v345 : FVec F S16384x1024 .f32 := broadcastInDim S16384x1024 ![0, 1] bcast_S16384x1_S16384x1024_0_1 main_v344
  let main_v346 : IVec S16384x1024 1 := cmpf .oeq main_v342 main_v345
  let main_v347 : IVec S16384x1024 32 := (extui 32 · natLt_1_32) main_v346
  let main_c_99 : IVec S_ 32 := constantI S_ 32 0#32
  let main_v348 : IVec S16384 32 := (fun x v => Host.reduce IntOp.addi x v reducesTo_S16384x1024_S16384_d1 h_S_) main_v347 main_c_99
  let main_c_100 : IVec S_ 32 := constantI S_ 32 1#32
  let main_v349 : IVec S16384 32 := broadcastInDim S16384 ![] bcast_S_S16384 main_c_100
  let main_v350 : IVec S16384 1 := cmpi .eq main_v348 main_v349
  let main_c_101 : IVec S_ 1 := constantI S_ 1 1#1
  let main_v351 : IVec S_ 1 := (fun x v => Host.reduce IntOp.andi x v reducesTo_S16384_S_d0 h_S_) main_v350 main_c_101
  fn_part19 (F := F) main_arg0 main_v311 main_v328 main_v342 main_v351

def fn_part17 {F : FTy → Type} [FloatOps F] (main_arg0 : FVec F S16384x256 .f32) (main_v287 : FVec F S1024x256 .f32) (main_v311 : IVec S_ 1) (main_v312 : IVec S16384 32) (main_v313 : FVec F S1024x256 .f32) (main_v314 : IVec S16384x1 32) : IVec S_ 1 :=
  let main_v315 : FVec F S1024x256 .f32 := (fun x i u => Host.scatterAdd scatter_S1024x256_S16384x1_S16384x256_1_0_0_1 x i u) main_v313 main_v314 main_arg0
  let main_cst_91 : FVec F S_ .f32 := constant S_ .f32 0x3F800000#32
  let main_v316 : FVec F S16384 .f32 := broadcastInDim S16384 ![] bcast_S_S16384 main_cst_91
  let main_cst_92 : FVec F S_ .f32 := constant S_ .f32 0x00000000#32
  let main_v317 : FVec F S1024 .f32 := broadcastInDim S1024 ![] bcast_S_S1024 main_cst_92
  let main_v318 : IVec S16384x1 32 := broadcastInDim S16384x1 ![0] bcast_S16384_S16384x1_0 main_v312
  let main_v319 : FVec F S1024 .f32 := (fun x i u => Host.scatterAdd scatter_S1024_S16384x1_S16384_n_0_0_1 x i u) main_v317 main_v318 main_v316
  let main_cst_93 : FVec F S_ .f32 := constant S_ .f32 0x3F800000#32
  let main_v320 : FVec F S1024 .f32 := broadcastInDim S1024 ![] bcast_S_S1024 main_cst_93
  let main_v321 : FVec F S1024 .f32 := maximumf main_v319 main_v320
  let main_v322 : FVec F S1024x1 .f32 := broadcastInDim S1024x1 ![0] bcast_S1024_S1024x1_0 main_v321
  let main_v323 : FVec F S1024x256 .f32 := broadcastInDim S1024x256 ![0, 1] bcast_S1024x1_S1024x256_0_1 main_v322
  let main_v324 : FVec F S1024x256 .f32 := Host.divf main_v315 main_v323
  let main_v325 : FVec F S1024x1 .f32 := broadcastInDim S1024x1 ![0] bcast_S1024_S1024x1_0 main_v319
  let main_cst_94 : FVec F S_ .f32 := constant S_ .f32 0x00000000#32
  let main_v326 : FVec F S1024x1 .f32 := broadcastInDim S1024x1 ![] bcast_S_S1024x1 main_cst_94
  let main_v327 : IVec S1024x1 1 := cmpf .ogt main_v325 main_v326
  let main_v328 : FVec F S1024x256 .f32 := fn_where (F := F) main_v327 main_v324 main_v287
  let main_v329 : FVec F S16384x256 .f32 := mulf main_arg0 main_arg0
  let main_cst_95 : FVec F S_ .f32 := constant S_ .f32 0x00000000#32
  let main_v330 : FVec F S16384 .f32 := (fun x v => Host.reduceAdd x v reducesTo_S16384x256_S16384_d1 h_S_) main_v329 main_cst_95
  let main_v331 : FVec F S16384x1 .f32 := broadcastInDim S16384x1 ![0] bcast_S16384_S16384x1_0 main_v330
  let main_v332 : FVec F S1024x256 .f32 := mulf main_v328 main_v328
  let main_cst_96 : FVec F S_ .f32 := constant S_ .f32 0x00000000#32
  fn_part18 (F := F) main_arg0 main_v311 main_v328 main_v331 main_v332 main_cst_96

def fn_part16 {F : FTy → Type} [FloatOps F] (main_arg0 : FVec F S16384x256 .f32) (main_v270 : IVec S_ 1) (main_v287 : FVec F S1024x256 .f32) (main_v296 : FVec F S16384x1024 .f32) : IVec S_ 1 :=
  let main_v297 : FVec F S256x1024 .f32 := (transpose S256x1024 [1, 0] · transposes_S1024x256_S256x1024_1_0) main_v287
  let main_v298 : FVec F S16384x1024 .f32 := (fun l r => Host.dotGeneral dot_S16384x256_S256x1024_S16384x1024_1_0_0_1_n_n none l r) main_arg0 main_v297
  let main_cst_85 : FVec F S_ .f32 := constant S_ .f32 0x40000000#32
  let main_v299 : FVec F S16384x1024 .f32 := broadcastInDim S16384x1024 ![] bcast_S_S16384x1024 main_cst_85
  let main_v300 : FVec F S16384x1024 .f32 := mulf main_v299 main_v298
  let main_v301 : FVec F S16384x1024 .f32 := subf main_v296 main_v300
  let main_cst_86 : FVec F S_ .f32 := constant S_ .f32 0x7F800000#32
  let main_v302 : FVec F S16384 .f32 := (fun x v => Host.reduce FloatOps.minimumf x v reducesTo_S16384x1024_S16384_d1 h_S_) main_v301 main_cst_86
  let main_v303 : FVec F S16384x1 .f32 := broadcastInDim S16384x1 ![0] bcast_S16384_S16384x1_0 main_v302
  let main_v304 : FVec F S16384x1024 .f32 := broadcastInDim S16384x1024 ![0, 1] bcast_S16384x1_S16384x1024_0_1 main_v303
  let main_v305 : IVec S16384x1024 1 := cmpf .oeq main_v301 main_v304
  let main_v306 : IVec S16384x1024 32 := (extui 32 · natLt_1_32) main_v305
  let main_c_87 : IVec S_ 32 := constantI S_ 32 0#32
  let main_v307 : IVec S16384 32 := (fun x v => Host.reduce IntOp.addi x v reducesTo_S16384x1024_S16384_d1 h_S_) main_v306 main_c_87
  let main_c_88 : IVec S_ 32 := constantI S_ 32 1#32
  let main_v308 : IVec S16384 32 := broadcastInDim S16384 ![] bcast_S_S16384 main_c_88
  let main_v309 : IVec S16384 1 := cmpi .eq main_v307 main_v308
  let main_c_89 : IVec S_ 1 := constantI S_ 1 1#1
  let main_v310 : IVec S_ 1 := (fun x v => Host.reduce IntOp.andi x v reducesTo_S16384_S_d0 h_S_) main_v309 main_c_89
  let main_v311 : IVec S_ 1 := andi main_v270 main_v310
  let main_v312 : IVec S16384 32 := fn_argmin (F := F) main_v301
  let main_cst_90 : FVec F S_ .f32 := constant S_ .f32 0x00000000#32
  let main_v313 : FVec F S1024x256 .f32 := broadcastInDim S1024x256 ![] bcast_S_S1024x256 main_cst_90
  let main_v314 : IVec S16384x1 32 := broadcastInDim S16384x1 ![0] bcast_S16384_S16384x1_0 main_v312
  fn_part17 (F := F) main_arg0 main_v287 main_v311 main_v312 main_v313 main_v314

def fn_part15 {F : FTy → Type} [FloatOps F] (main_arg0 : FVec F S16384x256 .f32) (main_v246 : FVec F S1024x256 .f32) (main_v270 : IVec S_ 1) (main_v271 : IVec S16384 32) (main_v274 : FVec F S1024x256 .f32) (main_v275 : FVec F S16384 .f32) (main_v276 : FVec F S1024 .f32) : IVec S_ 1 :=
  let main_v277 : IVec S16384x1 32 := broadcastInDim S16384x1 ![0] bcast_S16384_S16384x1_0 main_v271
  let main_v278 : FVec F S1024 .f32 := (fun x i u => Host.scatterAdd scatter_S1024_S16384x1_S16384_n_0_0_1 x i u) main_v276 main_v277 main_v275
  let main_cst_81 : FVec F S_ .f32 := constant S_ .f32 0x3F800000#32
  let main_v279 : FVec F S1024 .f32 := broadcastInDim S1024 ![] bcast_S_S1024 main_cst_81
  let main_v280 : FVec F S1024 .f32 := maximumf main_v278 main_v279
  let main_v281 : FVec F S1024x1 .f32 := broadcastInDim S1024x1 ![0] bcast_S1024_S1024x1_0 main_v280
  let main_v282 : FVec F S1024x256 .f32 := broadcastInDim S1024x256 ![0, 1] bcast_S1024x1_S1024x256_0_1 main_v281
  let main_v283 : FVec F S1024x256 .f32 := Host.divf main_v274 main_v282
  let main_v284 : FVec F S1024x1 .f32 := broadcastInDim S1024x1 ![0] bcast_S1024_S1024x1_0 main_v278
  let main_cst_82 : FVec F S_ .f32 := constant S_ .f32 0x00000000#32
  let main_v285 : FVec F S1024x1 .f32 := broadcastInDim S1024x1 ![] bcast_S_S1024x1 main_cst_82
  let main_v286 : IVec S1024x1 1 := cmpf .ogt main_v284 main_v285
  let main_v287 : FVec F S1024x256 .f32 := fn_where (F := F) main_v286 main_v283 main_v246
  let main_v288 : FVec F S16384x256 .f32 := mulf main_arg0 main_arg0
  let main_cst_83 : FVec F S_ .f32 := constant S_ .f32 0x00000000#32
  let main_v289 : FVec F S16384 .f32 := (fun x v => Host.reduceAdd x v reducesTo_S16384x256_S16384_d1 h_S_) main_v288 main_cst_83
  let main_v290 : FVec F S16384x1 .f32 := broadcastInDim S16384x1 ![0] bcast_S16384_S16384x1_0 main_v289
  let main_v291 : FVec F S1024x256 .f32 := mulf main_v287 main_v287
  let main_cst_84 : FVec F S_ .f32 := constant S_ .f32 0x00000000#32
  let main_v292 : FVec F S1024 .f32 := (fun x v => Host.reduceAdd x v reducesTo_S1024x256_S1024_d1 h_S_) main_v291 main_cst_84
  let main_v293 : FVec F S1x1024 .f32 := broadcastInDim S1x1024 ![1] bcast_S1024_S1x1024_1 main_v292
  let main_v294 : FVec F S16384x1024 .f32 := broadcastInDim S16384x1024 ![0, 1] bcast_S16384x1_S16384x1024_0_1 main_v290
  let main_v295 : FVec F S16384x1024 .f32 := broadcastInDim S16384x1024 ![0, 1] bcast_S1x1024_S16384x1024_0_1 main_v293
  let main_v296 : FVec F S16384x1024 .f32 := addf main_v294 main_v295
  fn_part16 (F := F) main_arg0 main_v270 main_v287 main_v296

def fn_part14 {F : FTy → Type} [FloatOps F] (main_arg0 : FVec F S16384x256 .f32) (main_v229 : IVec S_ 1) (main_v246 : FVec F S1024x256 .f32) (main_v255 : FVec F S16384x1024 .f32) (main_v259 : FVec F S16384x1024 .f32) : IVec S_ 1 :=
  let main_v260 : FVec F S16384x1024 .f32 := subf main_v255 main_v259
  let main_cst_74 : FVec F S_ .f32 := constant S_ .f32 0x7F800000#32
  let main_v261 : FVec F S16384 .f32 := (fun x v => Host.reduce FloatOps.minimumf x v reducesTo_S16384x1024_S16384_d1 h_S_) main_v260 main_cst_74
  let main_v262 : FVec F S16384x1 .f32 := broadcastInDim S16384x1 ![0] bcast_S16384_S16384x1_0 main_v261
  let main_v263 : FVec F S16384x1024 .f32 := broadcastInDim S16384x1024 ![0, 1] bcast_S16384x1_S16384x1024_0_1 main_v262
  let main_v264 : IVec S16384x1024 1 := cmpf .oeq main_v260 main_v263
  let main_v265 : IVec S16384x1024 32 := (extui 32 · natLt_1_32) main_v264
  let main_c_75 : IVec S_ 32 := constantI S_ 32 0#32
  let main_v266 : IVec S16384 32 := (fun x v => Host.reduce IntOp.addi x v reducesTo_S16384x1024_S16384_d1 h_S_) main_v265 main_c_75
  let main_c_76 : IVec S_ 32 := constantI S_ 32 1#32
  let main_v267 : IVec S16384 32 := broadcastInDim S16384 ![] bcast_S_S16384 main_c_76
  let main_v268 : IVec S16384 1 := cmpi .eq main_v266 main_v267
  let main_c_77 : IVec S_ 1 := constantI S_ 1 1#1
  let main_v269 : IVec S_ 1 := (fun x v => Host.reduce IntOp.andi x v reducesTo_S16384_S_d0 h_S_) main_v268 main_c_77
  let main_v270 : IVec S_ 1 := andi main_v229 main_v269
  let main_v271 : IVec S16384 32 := fn_argmin (F := F) main_v260
  let main_cst_78 : FVec F S_ .f32 := constant S_ .f32 0x00000000#32
  let main_v272 : FVec F S1024x256 .f32 := broadcastInDim S1024x256 ![] bcast_S_S1024x256 main_cst_78
  let main_v273 : IVec S16384x1 32 := broadcastInDim S16384x1 ![0] bcast_S16384_S16384x1_0 main_v271
  let main_v274 : FVec F S1024x256 .f32 := (fun x i u => Host.scatterAdd scatter_S1024x256_S16384x1_S16384x256_1_0_0_1 x i u) main_v272 main_v273 main_arg0
  let main_cst_79 : FVec F S_ .f32 := constant S_ .f32 0x3F800000#32
  let main_v275 : FVec F S16384 .f32 := broadcastInDim S16384 ![] bcast_S_S16384 main_cst_79
  let main_cst_80 : FVec F S_ .f32 := constant S_ .f32 0x00000000#32
  let main_v276 : FVec F S1024 .f32 := broadcastInDim S1024 ![] bcast_S_S1024 main_cst_80
  fn_part15 (F := F) main_arg0 main_v246 main_v270 main_v271 main_v274 main_v275 main_v276

def fn_part13 {F : FTy → Type} [FloatOps F] (main_arg0 : FVec F S16384x256 .f32) (main_v205 : FVec F S1024x256 .f32) (main_v229 : IVec S_ 1) (main_v233 : FVec F S1024x256 .f32) (main_v237 : FVec F S1024 .f32) (main_v239 : FVec F S1024 .f32) : IVec S_ 1 :=
  let main_v240 : FVec F S1024x1 .f32 := broadcastInDim S1024x1 ![0] bcast_S1024_S1024x1_0 main_v239
  let main_v241 : FVec F S1024x256 .f32 := broadcastInDim S1024x256 ![0, 1] bcast_S1024x1_S1024x256_0_1 main_v240
  let main_v242 : FVec F S1024x256 .f32 := Host.divf main_v233 main_v241
  let main_v243 : FVec F S1024x1 .f32 := broadcastInDim S1024x1 ![0] bcast_S1024_S1024x1_0 main_v237
  let main_cst_70 : FVec F S_ .f32 := constant S_ .f32 0x00000000#32
  let main_v244 : FVec F S1024x1 .f32 := broadcastInDim S1024x1 ![] bcast_S_S1024x1 main_cst_70
  let main_v245 : IVec S1024x1 1 := cmpf .ogt main_v243 main_v244
  let main_v246 : FVec F S1024x256 .f32 := fn_where (F := F) main_v245 main_v242 main_v205
  let main_v247 : FVec F S16384x256 .f32 := mulf main_arg0 main_arg0
  let main_cst_71 : FVec F S_ .f32 := constant S_ .f32 0x00000000#32
  let main_v248 : FVec F S16384 .f32 := (fun x v => Host.reduceAdd x v reducesTo_S16384x256_S16384_d1 h_S_) main_v247 main_cst_71
  let main_v249 : FVec F S16384x1 .f32 := broadcastInDim S16384x1 ![0] bcast_S16384_S16384x1_0 main_v248
  let main_v250 : FVec F S1024x256 .f32 := mulf main_v246 main_v246
  let main_cst_72 : FVec F S_ .f32 := constant S_ .f32 0x00000000#32
  let main_v251 : FVec F S1024 .f32 := (fun x v => Host.reduceAdd x v reducesTo_S1024x256_S1024_d1 h_S_) main_v250 main_cst_72
  let main_v252 : FVec F S1x1024 .f32 := broadcastInDim S1x1024 ![1] bcast_S1024_S1x1024_1 main_v251
  let main_v253 : FVec F S16384x1024 .f32 := broadcastInDim S16384x1024 ![0, 1] bcast_S16384x1_S16384x1024_0_1 main_v249
  let main_v254 : FVec F S16384x1024 .f32 := broadcastInDim S16384x1024 ![0, 1] bcast_S1x1024_S16384x1024_0_1 main_v252
  let main_v255 : FVec F S16384x1024 .f32 := addf main_v253 main_v254
  let main_v256 : FVec F S256x1024 .f32 := (transpose S256x1024 [1, 0] · transposes_S1024x256_S256x1024_1_0) main_v246
  let main_v257 : FVec F S16384x1024 .f32 := (fun l r => Host.dotGeneral dot_S16384x256_S256x1024_S16384x1024_1_0_0_1_n_n none l r) main_arg0 main_v256
  let main_cst_73 : FVec F S_ .f32 := constant S_ .f32 0x40000000#32
  let main_v258 : FVec F S16384x1024 .f32 := broadcastInDim S16384x1024 ![] bcast_S_S16384x1024 main_cst_73
  let main_v259 : FVec F S16384x1024 .f32 := mulf main_v258 main_v257
  fn_part14 (F := F) main_arg0 main_v229 main_v246 main_v255 main_v259

def fn_part12 {F : FTy → Type} [FloatOps F] (main_arg0 : FVec F S16384x256 .f32) (main_v188 : IVec S_ 1) (main_v205 : FVec F S1024x256 .f32) (main_v219 : FVec F S16384x1024 .f32) (main_v222 : FVec F S16384x1024 .f32) : IVec S_ 1 :=
  let main_v223 : IVec S16384x1024 1 := cmpf .oeq main_v219 main_v222
  let main_v224 : IVec S16384x1024 32 := (extui 32 · natLt_1_32) main_v223
  let main_c_63 : IVec S_ 32 := constantI S_ 32 0#32
  let main_v225 : IVec S16384 32 := (fun x v => Host.reduce IntOp.addi x v reducesTo_S16384x1024_S16384_d1 h_S_) main_v224 main_c_63
  let main_c_64 : IVec S_ 32 := constantI S_ 32 1#32
  let main_v226 : IVec S16384 32 := broadcastInDim S16384 ![] bcast_S_S16384 main_c_64
  let main_v227 : IVec S16384 1 := cmpi .eq main_v225 main_v226
  let main_c_65 : IVec S_ 1 := constantI S_ 1 1#1
  let main_v228 : IVec S_ 1 := (fun x v => Host.reduce IntOp.andi x v reducesTo_S16384_S_d0 h_S_) main_v227 main_c_65
  let main_v229 : IVec S_ 1 := andi main_v188 main_v228
  let main_v230 : IVec S16384 32 := fn_argmin (F := F) main_v219
  let main_cst_66 : FVec F S_ .f32 := constant S_ .f32 0x00000000#32
  let main_v231 : FVec F S1024x256 .f32 := broadcastInDim S1024x256 ![] bcast_S_S1024x256 main_cst_66
  let main_v232 : IVec S16384x1 32 := broadcastInDim S16384x1 ![0] bcast_S16384_S16384x1_0 main_v230
  let main_v233 : FVec F S1024x256 .f32 := (fun x i u => Host.scatterAdd scatter_S1024x256_S16384x1_S16384x256_1_0_0_1 x i u) main_v231 main_v232 main_arg0
  let main_cst_67 : FVec F S_ .f32 := constant S_ .f32 0x3F800000#32
  let main_v234 : FVec F S16384 .f32 := broadcastInDim S16384 ![] bcast_S_S16384 main_cst_67
  let main_cst_68 : FVec F S_ .f32 := constant S_ .f32 0x00000000#32
  let main_v235 : FVec F S1024 .f32 := broadcastInDim S1024 ![] bcast_S_S1024 main_cst_68
  let main_v236 : IVec S16384x1 32 := broadcastInDim S16384x1 ![0] bcast_S16384_S16384x1_0 main_v230
  let main_v237 : FVec F S1024 .f32 := (fun x i u => Host.scatterAdd scatter_S1024_S16384x1_S16384_n_0_0_1 x i u) main_v235 main_v236 main_v234
  let main_cst_69 : FVec F S_ .f32 := constant S_ .f32 0x3F800000#32
  let main_v238 : FVec F S1024 .f32 := broadcastInDim S1024 ![] bcast_S_S1024 main_cst_69
  let main_v239 : FVec F S1024 .f32 := maximumf main_v237 main_v238
  fn_part13 (F := F) main_arg0 main_v205 main_v229 main_v233 main_v237 main_v239

def fn_part11 {F : FTy → Type} [FloatOps F] (main_arg0 : FVec F S16384x256 .f32) (main_v164 : FVec F S1024x256 .f32) (main_v188 : IVec S_ 1) (main_v201 : FVec F S1024x256 .f32) (main_v202 : FVec F S1024x1 .f32) (main_cst_58 : FVec F S_ .f32) : IVec S_ 1 :=
  let main_v203 : FVec F S1024x1 .f32 := broadcastInDim S1024x1 ![] bcast_S_S1024x1 main_cst_58
  let main_v204 : IVec S1024x1 1 := cmpf .ogt main_v202 main_v203
  let main_v205 : FVec F S1024x256 .f32 := fn_where (F := F) main_v204 main_v201 main_v164
  let main_v206 : FVec F S16384x256 .f32 := mulf main_arg0 main_arg0
  let main_cst_59 : FVec F S_ .f32 := constant S_ .f32 0x00000000#32
  let main_v207 : FVec F S16384 .f32 := (fun x v => Host.reduceAdd x v reducesTo_S16384x256_S16384_d1 h_S_) main_v206 main_cst_59
  let main_v208 : FVec F S16384x1 .f32 := broadcastInDim S16384x1 ![0] bcast_S16384_S16384x1_0 main_v207
  let main_v209 : FVec F S1024x256 .f32 := mulf main_v205 main_v205
  let main_cst_60 : FVec F S_ .f32 := constant S_ .f32 0x00000000#32
  let main_v210 : FVec F S1024 .f32 := (fun x v => Host.reduceAdd x v reducesTo_S1024x256_S1024_d1 h_S_) main_v209 main_cst_60
  let main_v211 : FVec F S1x1024 .f32 := broadcastInDim S1x1024 ![1] bcast_S1024_S1x1024_1 main_v210
  let main_v212 : FVec F S16384x1024 .f32 := broadcastInDim S16384x1024 ![0, 1] bcast_S16384x1_S16384x1024_0_1 main_v208
  let main_v213 : FVec F S16384x1024 .f32 := broadcastInDim S16384x1024 ![0, 1] bcast_S1x1024_S16384x1024_0_1 main_v211
  let main_v214 : FVec F S16384x1024 .f32 := addf main_v212 main_v213
  let main_v215 : FVec F S256x1024 .f32 := (transpose S256x1024 [1, 0] · transposes_S1024x256_S256x1024_1_0) main_v205
  let main_v216 : FVec F S16384x1024 .f32 := (fun l r => Host.dotGeneral dot_S16384x256_S256x1024_S16384x1024_1_0_0_1_n_n none l r) main_arg0 main_v215
  let main_cst_61 : FVec F S_ .f32 := constant S_ .f32 0x40000000#32
  let main_v217 : FVec F S16384x1024 .f32 := broadcastInDim S16384x1024 ![] bcast_S_S16384x1024 main_cst_61
  let main_v218 : FVec F S16384x1024 .f32 := mulf main_v217 main_v216
  let main_v219 : FVec F S16384x1024 .f32 := subf main_v214 main_v218
  let main_cst_62 : FVec F S_ .f32 := constant S_ .f32 0x7F800000#32
  let main_v220 : FVec F S16384 .f32 := (fun x v => Host.reduce FloatOps.minimumf x v reducesTo_S16384x1024_S16384_d1 h_S_) main_v219 main_cst_62
  let main_v221 : FVec F S16384x1 .f32 := broadcastInDim S16384x1 ![0] bcast_S16384_S16384x1_0 main_v220
  let main_v222 : FVec F S16384x1024 .f32 := broadcastInDim S16384x1024 ![0, 1] bcast_S16384x1_S16384x1024_0_1 main_v221
  fn_part12 (F := F) main_arg0 main_v188 main_v205 main_v219 main_v222

def fn_part10 {F : FTy → Type} [FloatOps F] (main_arg0 : FVec F S16384x256 .f32) (main_v147 : IVec S_ 1) (main_v164 : FVec F S1024x256 .f32) (main_v178 : FVec F S16384x1024 .f32) (main_v184 : IVec S16384 32) (main_c_52 : IVec S_ 32) : IVec S_ 1 :=
  let main_v185 : IVec S16384 32 := broadcastInDim S16384 ![] bcast_S_S16384 main_c_52
  let main_v186 : IVec S16384 1 := cmpi .eq main_v184 main_v185
  let main_c_53 : IVec S_ 1 := constantI S_ 1 1#1
  let main_v187 : IVec S_ 1 := (fun x v => Host.reduce IntOp.andi x v reducesTo_S16384_S_d0 h_S_) main_v186 main_c_53
  let main_v188 : IVec S_ 1 := andi main_v147 main_v187
  let main_v189 : IVec S16384 32 := fn_argmin (F := F) main_v178
  let main_cst_54 : FVec F S_ .f32 := constant S_ .f32 0x00000000#32
  let main_v190 : FVec F S1024x256 .f32 := broadcastInDim S1024x256 ![] bcast_S_S1024x256 main_cst_54
  let main_v191 : IVec S16384x1 32 := broadcastInDim S16384x1 ![0] bcast_S16384_S16384x1_0 main_v189
  let main_v192 : FVec F S1024x256 .f32 := (fun x i u => Host.scatterAdd scatter_S1024x256_S16384x1_S16384x256_1_0_0_1 x i u) main_v190 main_v191 main_arg0
  let main_cst_55 : FVec F S_ .f32 := constant S_ .f32 0x3F800000#32
  let main_v193 : FVec F S16384 .f32 := broadcastInDim S16384 ![] bcast_S_S16384 main_cst_55
  let main_cst_56 : FVec F S_ .f32 := constant S_ .f32 0x00000000#32
  let main_v194 : FVec F S1024 .f32 := broadcastInDim S1024 ![] bcast_S_S1024 main_cst_56
  let main_v195 : IVec S16384x1 32 := broadcastInDim S16384x1 ![0] bcast_S16384_S16384x1_0 main_v189
  let main_v196 : FVec F S1024 .f32 := (fun x i u => Host.scatterAdd scatter_S1024_S16384x1_S16384_n_0_0_1 x i u) main_v194 main_v195 main_v193
  let main_cst_57 : FVec F S_ .f32 := constant S_ .f32 0x3F800000#32
  let main_v197 : FVec F S1024 .f32 := broadcastInDim S1024 ![] bcast_S_S1024 main_cst_57
  let main_v198 : FVec F S1024 .f32 := maximumf main_v196 main_v197
  let main_v199 : FVec F S1024x1 .f32 := broadcastInDim S1024x1 ![0] bcast_S1024_S1024x1_0 main_v198
  let main_v200 : FVec F S1024x256 .f32 := broadcastInDim S1024x256 ![0, 1] bcast_S1024x1_S1024x256_0_1 main_v199
  let main_v201 : FVec F S1024x256 .f32 := Host.divf main_v192 main_v200
  let main_v202 : FVec F S1024x1 .f32 := broadcastInDim S1024x1 ![0] bcast_S1024_S1024x1_0 main_v196
  let main_cst_58 : FVec F S_ .f32 := constant S_ .f32 0x00000000#32
  fn_part11 (F := F) main_arg0 main_v164 main_v188 main_v201 main_v202 main_cst_58

def fn_part9 {F : FTy → Type} [FloatOps F] (main_arg0 : FVec F S16384x256 .f32) (main_v147 : IVec S_ 1) (main_v164 : FVec F S1024x256 .f32) (main_v165 : FVec F S16384x256 .f32) (main_cst_47 : FVec F S_ .f32) : IVec S_ 1 :=
  let main_v166 : FVec F S16384 .f32 := (fun x v => Host.reduceAdd x v reducesTo_S16384x256_S16384_d1 h_S_) main_v165 main_cst_47
  let main_v167 : FVec F S16384x1 .f32 := broadcastInDim S16384x1 ![0] bcast_S16384_S16384x1_0 main_v166
  let main_v168 : FVec F S1024x256 .f32 := mulf main_v164 main_v164
  let main_cst_48 : FVec F S_ .f32 := constant S_ .f32 0x00000000#32
  let main_v169 : FVec F S1024 .f32 := (fun x v => Host.reduceAdd x v reducesTo_S1024x256_S1024_d1 h_S_) main_v168 main_cst_48
  let main_v170 : FVec F S1x1024 .f32 := broadcastInDim S1x1024 ![1] bcast_S1024_S1x1024_1 main_v169
  let main_v171 : FVec F S16384x1024 .f32 := broadcastInDim S16384x1024 ![0, 1] bcast_S16384x1_S16384x1024_0_1 main_v167
  let main_v172 : FVec F S16384x1024 .f32 := broadcastInDim S16384x1024 ![0, 1] bcast_S1x1024_S16384x1024_0_1 main_v170
  let main_v173 : FVec F S16384x1024 .f32 := addf main_v171 main_v172
  let main_v174 : FVec F S256x1024 .f32 := (transpose S256x1024 [1, 0] · transposes_S1024x256_S256x1024_1_0) main_v164
  let main_v175 : FVec F S16384x1024 .f32 := (fun l r => Host.dotGeneral dot_S16384x256_S256x1024_S16384x1024_1_0_0_1_n_n none l r) main_arg0 main_v174
  let main_cst_49 : FVec F S_ .f32 := constant S_ .f32 0x40000000#32
  let main_v176 : FVec F S16384x1024 .f32 := broadcastInDim S16384x1024 ![] bcast_S_S16384x1024 main_cst_49
  let main_v177 : FVec F S16384x1024 .f32 := mulf main_v176 main_v175
  let main_v178 : FVec F S16384x1024 .f32 := subf main_v173 main_v177
  let main_cst_50 : FVec F S_ .f32 := constant S_ .f32 0x7F800000#32
  let main_v179 : FVec F S16384 .f32 := (fun x v => Host.reduce FloatOps.minimumf x v reducesTo_S16384x1024_S16384_d1 h_S_) main_v178 main_cst_50
  let main_v180 : FVec F S16384x1 .f32 := broadcastInDim S16384x1 ![0] bcast_S16384_S16384x1_0 main_v179
  let main_v181 : FVec F S16384x1024 .f32 := broadcastInDim S16384x1024 ![0, 1] bcast_S16384x1_S16384x1024_0_1 main_v180
  let main_v182 : IVec S16384x1024 1 := cmpf .oeq main_v178 main_v181
  let main_v183 : IVec S16384x1024 32 := (extui 32 · natLt_1_32) main_v182
  let main_c_51 : IVec S_ 32 := constantI S_ 32 0#32
  let main_v184 : IVec S16384 32 := (fun x v => Host.reduce IntOp.addi x v reducesTo_S16384x1024_S16384_d1 h_S_) main_v183 main_c_51
  let main_c_52 : IVec S_ 32 := constantI S_ 32 1#32
  fn_part10 (F := F) main_arg0 main_v147 main_v164 main_v178 main_v184 main_c_52

def fn_part8 {F : FTy → Type} [FloatOps F] (main_arg0 : FVec F S16384x256 .f32) (main_v123 : FVec F S1024x256 .f32) (main_v137 : FVec F S16384x1024 .f32) (main_v147 : IVec S_ 1) : IVec S_ 1 :=
  let main_v148 : IVec S16384 32 := fn_argmin (F := F) main_v137
  let main_cst_42 : FVec F S_ .f32 := constant S_ .f32 0x00000000#32
  let main_v149 : FVec F S1024x256 .f32 := broadcastInDim S1024x256 ![] bcast_S_S1024x256 main_cst_42
  let main_v150 : IVec S16384x1 32 := broadcastInDim S16384x1 ![0] bcast_S16384_S16384x1_0 main_v148
  let main_v151 : FVec F S1024x256 .f32 := (fun x i u => Host.scatterAdd scatter_S1024x256_S16384x1_S16384x256_1_0_0_1 x i u) main_v149 main_v150 main_arg0
  let main_cst_43 : FVec F S_ .f32 := constant S_ .f32 0x3F800000#32
  let main_v152 : FVec F S16384 .f32 := broadcastInDim S16384 ![] bcast_S_S16384 main_cst_43
  let main_cst_44 : FVec F S_ .f32 := constant S_ .f32 0x00000000#32
  let main_v153 : FVec F S1024 .f32 := broadcastInDim S1024 ![] bcast_S_S1024 main_cst_44
  let main_v154 : IVec S16384x1 32 := broadcastInDim S16384x1 ![0] bcast_S16384_S16384x1_0 main_v148
  let main_v155 : FVec F S1024 .f32 := (fun x i u => Host.scatterAdd scatter_S1024_S16384x1_S16384_n_0_0_1 x i u) main_v153 main_v154 main_v152
  let main_cst_45 : FVec F S_ .f32 := constant S_ .f32 0x3F800000#32
  let main_v156 : FVec F S1024 .f32 := broadcastInDim S1024 ![] bcast_S_S1024 main_cst_45
  let main_v157 : FVec F S1024 .f32 := maximumf main_v155 main_v156
  let main_v158 : FVec F S1024x1 .f32 := broadcastInDim S1024x1 ![0] bcast_S1024_S1024x1_0 main_v157
  let main_v159 : FVec F S1024x256 .f32 := broadcastInDim S1024x256 ![0, 1] bcast_S1024x1_S1024x256_0_1 main_v158
  let main_v160 : FVec F S1024x256 .f32 := Host.divf main_v151 main_v159
  let main_v161 : FVec F S1024x1 .f32 := broadcastInDim S1024x1 ![0] bcast_S1024_S1024x1_0 main_v155
  let main_cst_46 : FVec F S_ .f32 := constant S_ .f32 0x00000000#32
  let main_v162 : FVec F S1024x1 .f32 := broadcastInDim S1024x1 ![] bcast_S_S1024x1 main_cst_46
  let main_v163 : IVec S1024x1 1 := cmpf .ogt main_v161 main_v162
  let main_v164 : FVec F S1024x256 .f32 := fn_where (F := F) main_v163 main_v160 main_v123
  let main_v165 : FVec F S16384x256 .f32 := mulf main_arg0 main_arg0
  let main_cst_47 : FVec F S_ .f32 := constant S_ .f32 0x00000000#32
  fn_part9 (F := F) main_arg0 main_v147 main_v164 main_v165 main_cst_47

def fn_part7 {F : FTy → Type} [FloatOps F] (main_arg0 : FVec F S16384x256 .f32) (main_v106 : IVec S_ 1) (main_v123 : FVec F S1024x256 .f32) (main_v126 : FVec F S16384x1 .f32) (main_v128 : FVec F S1024 .f32) : IVec S_ 1 :=
  let main_v129 : FVec F S1x1024 .f32 := broadcastInDim S1x1024 ![1] bcast_S1024_S1x1024_1 main_v128
  let main_v130 : FVec F S16384x1024 .f32 := broadcastInDim S16384x1024 ![0, 1] bcast_S16384x1_S16384x1024_0_1 main_v126
  let main_v131 : FVec F S16384x1024 .f32 := broadcastInDim S16384x1024 ![0, 1] bcast_S1x1024_S16384x1024_0_1 main_v129
  let main_v132 : FVec F S16384x1024 .f32 := addf main_v130 main_v131
  let main_v133 : FVec F S256x1024 .f32 := (transpose S256x1024 [1, 0] · transposes_S1024x256_S256x1024_1_0) main_v123
  let main_v134 : FVec F S16384x1024 .f32 := (fun l r => Host.dotGeneral dot_S16384x256_S256x1024_S16384x1024_1_0_0_1_n_n none l r) main_arg0 main_v133
  let main_cst_37 : FVec F S_ .f32 := constant S_ .f32 0x40000000#32
  let main_v135 : FVec F S16384x1024 .f32 := broadcastInDim S16384x1024 ![] bcast_S_S16384x1024 main_cst_37
  let main_v136 : FVec F S16384x1024 .f32 := mulf main_v135 main_v134
  let main_v137 : FVec F S16384x1024 .f32 := subf main_v132 main_v136
  let main_cst_38 : FVec F S_ .f32 := constant S_ .f32 0x7F800000#32
  let main_v138 : FVec F S16384 .f32 := (fun x v => Host.reduce FloatOps.minimumf x v reducesTo_S16384x1024_S16384_d1 h_S_) main_v137 main_cst_38
  let main_v139 : FVec F S16384x1 .f32 := broadcastInDim S16384x1 ![0] bcast_S16384_S16384x1_0 main_v138
  let main_v140 : FVec F S16384x1024 .f32 := broadcastInDim S16384x1024 ![0, 1] bcast_S16384x1_S16384x1024_0_1 main_v139
  let main_v141 : IVec S16384x1024 1 := cmpf .oeq main_v137 main_v140
  let main_v142 : IVec S16384x1024 32 := (extui 32 · natLt_1_32) main_v141
  let main_c_39 : IVec S_ 32 := constantI S_ 32 0#32
  let main_v143 : IVec S16384 32 := (fun x v => Host.reduce IntOp.addi x v reducesTo_S16384x1024_S16384_d1 h_S_) main_v142 main_c_39
  let main_c_40 : IVec S_ 32 := constantI S_ 32 1#32
  let main_v144 : IVec S16384 32 := broadcastInDim S16384 ![] bcast_S_S16384 main_c_40
  let main_v145 : IVec S16384 1 := cmpi .eq main_v143 main_v144
  let main_c_41 : IVec S_ 1 := constantI S_ 1 1#1
  let main_v146 : IVec S_ 1 := (fun x v => Host.reduce IntOp.andi x v reducesTo_S16384_S_d0 h_S_) main_v145 main_c_41
  let main_v147 : IVec S_ 1 := andi main_v106 main_v146
  fn_part8 (F := F) main_arg0 main_v123 main_v137 main_v147

def fn_part6 {F : FTy → Type} [FloatOps F] (main_arg0 : FVec F S16384x256 .f32) (main_v82 : FVec F S1024x256 .f32) (main_v106 : IVec S_ 1) (main_v107 : IVec S16384 32) (main_v110 : FVec F S1024x256 .f32) : IVec S_ 1 :=
  let main_cst_31 : FVec F S_ .f32 := constant S_ .f32 0x3F800000#32
  let main_v111 : FVec F S16384 .f32 := broadcastInDim S16384 ![] bcast_S_S16384 main_cst_31
  let main_cst_32 : FVec F S_ .f32 := constant S_ .f32 0x00000000#32
  let main_v112 : FVec F S1024 .f32 := broadcastInDim S1024 ![] bcast_S_S1024 main_cst_32
  let main_v113 : IVec S16384x1 32 := broadcastInDim S16384x1 ![0] bcast_S16384_S16384x1_0 main_v107
  let main_v114 : FVec F S1024 .f32 := (fun x i u => Host.scatterAdd scatter_S1024_S16384x1_S16384_n_0_0_1 x i u) main_v112 main_v113 main_v111
  let main_cst_33 : FVec F S_ .f32 := constant S_ .f32 0x3F800000#32
  let main_v115 : FVec F S1024 .f32 := broadcastInDim S1024 ![] bcast_S_S1024 main_cst_33
  let main_v116 : FVec F S1024 .f32 := maximumf main_v114 main_v115
  let main_v117 : FVec F S1024x1 .f32 := broadcastInDim S1024x1 ![0] bcast_S1024_S1024x1_0 main_v116
  let main_v118 : FVec F S1024x256 .f32 := broadcastInDim S1024x256 ![0, 1] bcast_S1024x1_S1024x256_0_1 main_v117
  let main_v119 : FVec F S1024x256 .f32 := Host.divf main_v110 main_v118
  let main_v120 : FVec F S1024x1 .f32 := broadcastInDim S1024x1 ![0] bcast_S1024_S1024x1_0 main_v114
  let main_cst_34 : FVec F S_ .f32 := constant S_ .f32 0x00000000#32
  let main_v121 : FVec F S1024x1 .f32 := broadcastInDim S1024x1 ![] bcast_S_S1024x1 main_cst_34
  let main_v122 : IVec S1024x1 1 := cmpf .ogt main_v120 main_v121
  let main_v123 : FVec F S1024x256 .f32 := fn_where (F := F) main_v122 main_v119 main_v82
  let main_v124 : FVec F S16384x256 .f32 := mulf main_arg0 main_arg0
  let main_cst_35 : FVec F S_ .f32 := constant S_ .f32 0x00000000#32
  let main_v125 : FVec F S16384 .f32 := (fun x v => Host.reduceAdd x v reducesTo_S16384x256_S16384_d1 h_S_) main_v124 main_cst_35
  let main_v126 : FVec F S16384x1 .f32 := broadcastInDim S16384x1 ![0] bcast_S16384_S16384x1_0 main_v125
  let main_v127 : FVec F S1024x256 .f32 := mulf main_v123 main_v123
  let main_cst_36 : FVec F S_ .f32 := constant S_ .f32 0x00000000#32
  let main_v128 : FVec F S1024 .f32 := (fun x v => Host.reduceAdd x v reducesTo_S1024x256_S1024_d1 h_S_) main_v127 main_cst_36
  fn_part7 (F := F) main_arg0 main_v106 main_v123 main_v126 main_v128

def fn_part5 {F : FTy → Type} [FloatOps F] (main_arg0 : FVec F S16384x256 .f32) (main_v65 : IVec S_ 1) (main_v82 : FVec F S1024x256 .f32) (main_v91 : FVec F S16384x1024 .f32) (main_v92 : FVec F S256x1024 .f32) : IVec S_ 1 :=
  let main_v93 : FVec F S16384x1024 .f32 := (fun l r => Host.dotGeneral dot_S16384x256_S256x1024_S16384x1024_1_0_0_1_n_n none l r) main_arg0 main_v92
  let main_cst_25 : FVec F S_ .f32 := constant S_ .f32 0x40000000#32
  let main_v94 : FVec F S16384x1024 .f32 := broadcastInDim S16384x1024 ![] bcast_S_S16384x1024 main_cst_25
  let main_v95 : FVec F S16384x1024 .f32 := mulf main_v94 main_v93
  let main_v96 : FVec F S16384x1024 .f32 := subf main_v91 main_v95
  let main_cst_26 : FVec F S_ .f32 := constant S_ .f32 0x7F800000#32
  let main_v97 : FVec F S16384 .f32 := (fun x v => Host.reduce FloatOps.minimumf x v reducesTo_S16384x1024_S16384_d1 h_S_) main_v96 main_cst_26
  let main_v98 : FVec F S16384x1 .f32 := broadcastInDim S16384x1 ![0] bcast_S16384_S16384x1_0 main_v97
  let main_v99 : FVec F S16384x1024 .f32 := broadcastInDim S16384x1024 ![0, 1] bcast_S16384x1_S16384x1024_0_1 main_v98
  let main_v100 : IVec S16384x1024 1 := cmpf .oeq main_v96 main_v99
  let main_v101 : IVec S16384x1024 32 := (extui 32 · natLt_1_32) main_v100
  let main_c_27 : IVec S_ 32 := constantI S_ 32 0#32
  let main_v102 : IVec S16384 32 := (fun x v => Host.reduce IntOp.addi x v reducesTo_S16384x1024_S16384_d1 h_S_) main_v101 main_c_27
  let main_c_28 : IVec S_ 32 := constantI S_ 32 1#32
  let main_v103 : IVec S16384 32 := broadcastInDim S16384 ![] bcast_S_S16384 main_c_28
  let main_v104 : IVec S16384 1 := cmpi .eq main_v102 main_v103
  let main_c_29 : IVec S_ 1 := constantI S_ 1 1#1
  let main_v105 : IVec S_ 1 := (fun x v => Host.reduce IntOp.andi x v reducesTo_S16384_S_d0 h_S_) main_v104 main_c_29
  let main_v106 : IVec S_ 1 := andi main_v65 main_v105
  let main_v107 : IVec S16384 32 := fn_argmin (F := F) main_v96
  let main_cst_30 : FVec F S_ .f32 := constant S_ .f32 0x00000000#32
  let main_v108 : FVec F S1024x256 .f32 := broadcastInDim S1024x256 ![] bcast_S_S1024x256 main_cst_30
  let main_v109 : IVec S16384x1 32 := broadcastInDim S16384x1 ![0] bcast_S16384_S16384x1_0 main_v107
  let main_v110 : FVec F S1024x256 .f32 := (fun x i u => Host.scatterAdd scatter_S1024x256_S16384x1_S16384x256_1_0_0_1 x i u) main_v108 main_v109 main_arg0
  fn_part6 (F := F) main_arg0 main_v82 main_v106 main_v107 main_v110

def fn_part4 {F : FTy → Type} [FloatOps F] (main_arg0 : FVec F S16384x256 .f32) (main_v41 : FVec F S1024x256 .f32) (main_v65 : IVec S_ 1) (main_v69 : FVec F S1024x256 .f32) (main_v70 : FVec F S16384 .f32) (main_v71 : FVec F S1024 .f32) (main_v72 : IVec S16384x1 32) : IVec S_ 1 :=
  let main_v73 : FVec F S1024 .f32 := (fun x i u => Host.scatterAdd scatter_S1024_S16384x1_S16384_n_0_0_1 x i u) main_v71 main_v72 main_v70
  let main_cst_21 : FVec F S_ .f32 := constant S_ .f32 0x3F800000#32
  let main_v74 : FVec F S1024 .f32 := broadcastInDim S1024 ![] bcast_S_S1024 main_cst_21
  let main_v75 : FVec F S1024 .f32 := maximumf main_v73 main_v74
  let main_v76 : FVec F S1024x1 .f32 := broadcastInDim S1024x1 ![0] bcast_S1024_S1024x1_0 main_v75
  let main_v77 : FVec F S1024x256 .f32 := broadcastInDim S1024x256 ![0, 1] bcast_S1024x1_S1024x256_0_1 main_v76
  let main_v78 : FVec F S1024x256 .f32 := Host.divf main_v69 main_v77
  let main_v79 : FVec F S1024x1 .f32 := broadcastInDim S1024x1 ![0] bcast_S1024_S1024x1_0 main_v73
  let main_cst_22 : FVec F S_ .f32 := constant S_ .f32 0x00000000#32
  let main_v80 : FVec F S1024x1 .f32 := broadcastInDim S1024x1 ![] bcast_S_S1024x1 main_cst_22
  let main_v81 : IVec S1024x1 1 := cmpf .ogt main_v79 main_v80
  let main_v82 : FVec F S1024x256 .f32 := fn_where (F := F) main_v81 main_v78 main_v41
  let main_v83 : FVec F S16384x256 .f32 := mulf main_arg0 main_arg0
  let main_cst_23 : FVec F S_ .f32 := constant S_ .f32 0x00000000#32
  let main_v84 : FVec F S16384 .f32 := (fun x v => Host.reduceAdd x v reducesTo_S16384x256_S16384_d1 h_S_) main_v83 main_cst_23
  let main_v85 : FVec F S16384x1 .f32 := broadcastInDim S16384x1 ![0] bcast_S16384_S16384x1_0 main_v84
  let main_v86 : FVec F S1024x256 .f32 := mulf main_v82 main_v82
  let main_cst_24 : FVec F S_ .f32 := constant S_ .f32 0x00000000#32
  let main_v87 : FVec F S1024 .f32 := (fun x v => Host.reduceAdd x v reducesTo_S1024x256_S1024_d1 h_S_) main_v86 main_cst_24
  let main_v88 : FVec F S1x1024 .f32 := broadcastInDim S1x1024 ![1] bcast_S1024_S1x1024_1 main_v87
  let main_v89 : FVec F S16384x1024 .f32 := broadcastInDim S16384x1024 ![0, 1] bcast_S16384x1_S16384x1024_0_1 main_v85
  let main_v90 : FVec F S16384x1024 .f32 := broadcastInDim S16384x1024 ![0, 1] bcast_S1x1024_S16384x1024_0_1 main_v88
  let main_v91 : FVec F S16384x1024 .f32 := addf main_v89 main_v90
  let main_v92 : FVec F S256x1024 .f32 := (transpose S256x1024 [1, 0] · transposes_S1024x256_S256x1024_1_0) main_v82
  fn_part5 (F := F) main_arg0 main_v65 main_v82 main_v91 main_v92

def fn_part3 {F : FTy → Type} [FloatOps F] (main_arg0 : FVec F S16384x256 .f32) (main_v24 : IVec S_ 1) (main_v41 : FVec F S1024x256 .f32) (main_v55 : FVec F S16384x1024 .f32) : IVec S_ 1 :=
  let main_cst_14 : FVec F S_ .f32 := constant S_ .f32 0x7F800000#32
  let main_v56 : FVec F S16384 .f32 := (fun x v => Host.reduce FloatOps.minimumf x v reducesTo_S16384x1024_S16384_d1 h_S_) main_v55 main_cst_14
  let main_v57 : FVec F S16384x1 .f32 := broadcastInDim S16384x1 ![0] bcast_S16384_S16384x1_0 main_v56
  let main_v58 : FVec F S16384x1024 .f32 := broadcastInDim S16384x1024 ![0, 1] bcast_S16384x1_S16384x1024_0_1 main_v57
  let main_v59 : IVec S16384x1024 1 := cmpf .oeq main_v55 main_v58
  let main_v60 : IVec S16384x1024 32 := (extui 32 · natLt_1_32) main_v59
  let main_c_15 : IVec S_ 32 := constantI S_ 32 0#32
  let main_v61 : IVec S16384 32 := (fun x v => Host.reduce IntOp.addi x v reducesTo_S16384x1024_S16384_d1 h_S_) main_v60 main_c_15
  let main_c_16 : IVec S_ 32 := constantI S_ 32 1#32
  let main_v62 : IVec S16384 32 := broadcastInDim S16384 ![] bcast_S_S16384 main_c_16
  let main_v63 : IVec S16384 1 := cmpi .eq main_v61 main_v62
  let main_c_17 : IVec S_ 1 := constantI S_ 1 1#1
  let main_v64 : IVec S_ 1 := (fun x v => Host.reduce IntOp.andi x v reducesTo_S16384_S_d0 h_S_) main_v63 main_c_17
  let main_v65 : IVec S_ 1 := andi main_v24 main_v64
  let main_v66 : IVec S16384 32 := fn_argmin (F := F) main_v55
  let main_cst_18 : FVec F S_ .f32 := constant S_ .f32 0x00000000#32
  let main_v67 : FVec F S1024x256 .f32 := broadcastInDim S1024x256 ![] bcast_S_S1024x256 main_cst_18
  let main_v68 : IVec S16384x1 32 := broadcastInDim S16384x1 ![0] bcast_S16384_S16384x1_0 main_v66
  let main_v69 : FVec F S1024x256 .f32 := (fun x i u => Host.scatterAdd scatter_S1024x256_S16384x1_S16384x256_1_0_0_1 x i u) main_v67 main_v68 main_arg0
  let main_cst_19 : FVec F S_ .f32 := constant S_ .f32 0x3F800000#32
  let main_v70 : FVec F S16384 .f32 := broadcastInDim S16384 ![] bcast_S_S16384 main_cst_19
  let main_cst_20 : FVec F S_ .f32 := constant S_ .f32 0x00000000#32
  let main_v71 : FVec F S1024 .f32 := broadcastInDim S1024 ![] bcast_S_S1024 main_cst_20
  let main_v72 : IVec S16384x1 32 := broadcastInDim S16384x1 ![0] bcast_S16384_S16384x1_0 main_v66
  fn_part4 (F := F) main_arg0 main_v41 main_v65 main_v69 main_v70 main_v71 main_v72

def fn_part2 {F : FTy → Type} [FloatOps F] (main_arg0 : FVec F S16384x256 .f32) (main_v0 : FVec F S1024x256 .f32) (main_v24 : IVec S_ 1) (main_v28 : FVec F S1024x256 .f32) (main_v32 : FVec F S1024 .f32) (main_v35 : FVec F S1024x1 .f32) : IVec S_ 1 :=
  let main_v36 : FVec F S1024x256 .f32 := broadcastInDim S1024x256 ![0, 1] bcast_S1024x1_S1024x256_0_1 main_v35
  let main_v37 : FVec F S1024x256 .f32 := Host.divf main_v28 main_v36
  let main_v38 : FVec F S1024x1 .f32 := broadcastInDim S1024x1 ![0] bcast_S1024_S1024x1_0 main_v32
  let main_cst_10 : FVec F S_ .f32 := constant S_ .f32 0x00000000#32
  let main_v39 : FVec F S1024x1 .f32 := broadcastInDim S1024x1 ![] bcast_S_S1024x1 main_cst_10
  let main_v40 : IVec S1024x1 1 := cmpf .ogt main_v38 main_v39
  let main_v41 : FVec F S1024x256 .f32 := fn_where (F := F) main_v40 main_v37 main_v0
  let main_v42 : FVec F S16384x256 .f32 := mulf main_arg0 main_arg0
  let main_cst_11 : FVec F S_ .f32 := constant S_ .f32 0x00000000#32
  let main_v43 : FVec F S16384 .f32 := (fun x v => Host.reduceAdd x v reducesTo_S16384x256_S16384_d1 h_S_) main_v42 main_cst_11
  let main_v44 : FVec F S16384x1 .f32 := broadcastInDim S16384x1 ![0] bcast_S16384_S16384x1_0 main_v43
  let main_v45 : FVec F S1024x256 .f32 := mulf main_v41 main_v41
  let main_cst_12 : FVec F S_ .f32 := constant S_ .f32 0x00000000#32
  let main_v46 : FVec F S1024 .f32 := (fun x v => Host.reduceAdd x v reducesTo_S1024x256_S1024_d1 h_S_) main_v45 main_cst_12
  let main_v47 : FVec F S1x1024 .f32 := broadcastInDim S1x1024 ![1] bcast_S1024_S1x1024_1 main_v46
  let main_v48 : FVec F S16384x1024 .f32 := broadcastInDim S16384x1024 ![0, 1] bcast_S16384x1_S16384x1024_0_1 main_v44
  let main_v49 : FVec F S16384x1024 .f32 := broadcastInDim S16384x1024 ![0, 1] bcast_S1x1024_S16384x1024_0_1 main_v47
  let main_v50 : FVec F S16384x1024 .f32 := addf main_v48 main_v49
  let main_v51 : FVec F S256x1024 .f32 := (transpose S256x1024 [1, 0] · transposes_S1024x256_S256x1024_1_0) main_v41
  let main_v52 : FVec F S16384x1024 .f32 := (fun l r => Host.dotGeneral dot_S16384x256_S256x1024_S16384x1024_1_0_0_1_n_n none l r) main_arg0 main_v51
  let main_cst_13 : FVec F S_ .f32 := constant S_ .f32 0x40000000#32
  let main_v53 : FVec F S16384x1024 .f32 := broadcastInDim S16384x1024 ![] bcast_S_S16384x1024 main_cst_13
  let main_v54 : FVec F S16384x1024 .f32 := mulf main_v53 main_v52
  let main_v55 : FVec F S16384x1024 .f32 := subf main_v50 main_v54
  fn_part3 (F := F) main_arg0 main_v24 main_v41 main_v55

def fn_part1 {F : FTy → Type} [FloatOps F] (main_arg0 : FVec F S16384x256 .f32) (main_v0 : FVec F S1024x256 .f32) (main_v14 : FVec F S16384x1024 .f32) (main_v19 : IVec S16384x1024 32) : IVec S_ 1 :=
  let main_c : IVec S_ 32 := constantI S_ 32 0#32
  let main_v20 : IVec S16384 32 := (fun x v => Host.reduce IntOp.addi x v reducesTo_S16384x1024_S16384_d1 h_S_) main_v19 main_c
  let main_c_3 : IVec S_ 32 := constantI S_ 32 1#32
  let main_v21 : IVec S16384 32 := broadcastInDim S16384 ![] bcast_S_S16384 main_c_3
  let main_v22 : IVec S16384 1 := cmpi .eq main_v20 main_v21
  let main_c_4 : IVec S_ 1 := constantI S_ 1 1#1
  let main_v23 : IVec S_ 1 := (fun x v => Host.reduce IntOp.andi x v reducesTo_S16384_S_d0 h_S_) main_v22 main_c_4
  let main_c_5 : IVec S_ 1 := constantI S_ 1 1#1
  let main_v24 : IVec S_ 1 := andi main_c_5 main_v23
  let main_v25 : IVec S16384 32 := fn_argmin (F := F) main_v14
  let main_cst_6 : FVec F S_ .f32 := constant S_ .f32 0x00000000#32
  let main_v26 : FVec F S1024x256 .f32 := broadcastInDim S1024x256 ![] bcast_S_S1024x256 main_cst_6
  let main_v27 : IVec S16384x1 32 := broadcastInDim S16384x1 ![0] bcast_S16384_S16384x1_0 main_v25
  let main_v28 : FVec F S1024x256 .f32 := (fun x i u => Host.scatterAdd scatter_S1024x256_S16384x1_S16384x256_1_0_0_1 x i u) main_v26 main_v27 main_arg0
  let main_cst_7 : FVec F S_ .f32 := constant S_ .f32 0x3F800000#32
  let main_v29 : FVec F S16384 .f32 := broadcastInDim S16384 ![] bcast_S_S16384 main_cst_7
  let main_cst_8 : FVec F S_ .f32 := constant S_ .f32 0x00000000#32
  let main_v30 : FVec F S1024 .f32 := broadcastInDim S1024 ![] bcast_S_S1024 main_cst_8
  let main_v31 : IVec S16384x1 32 := broadcastInDim S16384x1 ![0] bcast_S16384_S16384x1_0 main_v25
  let main_v32 : FVec F S1024 .f32 := (fun x i u => Host.scatterAdd scatter_S1024_S16384x1_S16384_n_0_0_1 x i u) main_v30 main_v31 main_v29
  let main_cst_9 : FVec F S_ .f32 := constant S_ .f32 0x3F800000#32
  let main_v33 : FVec F S1024 .f32 := broadcastInDim S1024 ![] bcast_S_S1024 main_cst_9
  let main_v34 : FVec F S1024 .f32 := maximumf main_v32 main_v33
  let main_v35 : FVec F S1024x1 .f32 := broadcastInDim S1024x1 ![0] bcast_S1024_S1024x1_0 main_v34
  fn_part2 (F := F) main_arg0 main_v0 main_v24 main_v28 main_v32 main_v35

def fn {F : FTy → Type} [FloatOps F] (main_arg0 : FVec F S16384x256 .f32) : IVec S_ 1 :=
  let main_v0 : FVec F S1024x256 .f32 := (extractStridedSlice S1024x256 ![0, 0] · slices_S16384x256_S1024x256_0_0) main_arg0
  let main_v1 : FVec F S16384x256 .f32 := mulf main_arg0 main_arg0
  let main_cst : FVec F S_ .f32 := constant S_ .f32 0x00000000#32
  let main_v2 : FVec F S16384 .f32 := (fun x v => Host.reduceAdd x v reducesTo_S16384x256_S16384_d1 h_S_) main_v1 main_cst
  let main_v3 : FVec F S16384x1 .f32 := broadcastInDim S16384x1 ![0] bcast_S16384_S16384x1_0 main_v2
  let main_v4 : FVec F S1024x256 .f32 := mulf main_v0 main_v0
  let main_cst_0 : FVec F S_ .f32 := constant S_ .f32 0x00000000#32
  let main_v5 : FVec F S1024 .f32 := (fun x v => Host.reduceAdd x v reducesTo_S1024x256_S1024_d1 h_S_) main_v4 main_cst_0
  let main_v6 : FVec F S1x1024 .f32 := broadcastInDim S1x1024 ![1] bcast_S1024_S1x1024_1 main_v5
  let main_v7 : FVec F S16384x1024 .f32 := broadcastInDim S16384x1024 ![0, 1] bcast_S16384x1_S16384x1024_0_1 main_v3
  let main_v8 : FVec F S16384x1024 .f32 := broadcastInDim S16384x1024 ![0, 1] bcast_S1x1024_S16384x1024_0_1 main_v6
  let main_v9 : FVec F S16384x1024 .f32 := addf main_v7 main_v8
  let main_v10 : FVec F S256x1024 .f32 := (transpose S256x1024 [1, 0] · transposes_S1024x256_S256x1024_1_0) main_v0
  let main_v11 : FVec F S16384x1024 .f32 := (fun l r => Host.dotGeneral dot_S16384x256_S256x1024_S16384x1024_1_0_0_1_n_n none l r) main_arg0 main_v10
  let main_cst_1 : FVec F S_ .f32 := constant S_ .f32 0x40000000#32
  let main_v12 : FVec F S16384x1024 .f32 := broadcastInDim S16384x1024 ![] bcast_S_S16384x1024 main_cst_1
  let main_v13 : FVec F S16384x1024 .f32 := mulf main_v12 main_v11
  let main_v14 : FVec F S16384x1024 .f32 := subf main_v9 main_v13
  let main_cst_2 : FVec F S_ .f32 := constant S_ .f32 0x7F800000#32
  let main_v15 : FVec F S16384 .f32 := (fun x v => Host.reduce FloatOps.minimumf x v reducesTo_S16384x1024_S16384_d1 h_S_) main_v14 main_cst_2
  let main_v16 : FVec F S16384x1 .f32 := broadcastInDim S16384x1 ![0] bcast_S16384_S16384x1_0 main_v15
  let main_v17 : FVec F S16384x1024 .f32 := broadcastInDim S16384x1024 ![0, 1] bcast_S16384x1_S16384x1024_0_1 main_v16
  let main_v18 : IVec S16384x1024 1 := cmpf .oeq main_v14 main_v17
  let main_v19 : IVec S16384x1024 32 := (extui 32 · natLt_1_32) main_v18
  fn_part1 (F := F) main_arg0 main_v0 main_v14 main_v19
-- ==== Kernel.lean ====
abbrev S16384x256 : Shape := ⟨2, ![16384, 256]⟩
abbrev S16384 : Shape := ⟨1, ![16384]⟩
abbrev S1024x256 : Shape := ⟨2, ![1024, 256]⟩
abbrev S1024x1 : Shape := ⟨2, ![1024, 1]⟩
abbrev S16384x896 : Shape := ⟨2, ![16384, 896]⟩
abbrev S2048x256 : Shape := ⟨2, ![2048, 256]⟩
abbrev S2048x128 : Shape := ⟨2, ![2048, 128]⟩
abbrev S1x256 : Shape := ⟨2, ![1, 256]⟩
abbrev S1x1024 : Shape := ⟨2, ![1, 1024]⟩
abbrev S2048 : Shape := ⟨1, ![2048]⟩
abbrev S2048x1 : Shape := ⟨2, ![2048, 1]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 2
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S16384, .i32⟩
  | .local _ .vmem, ⟨0, _⟩ => ⟨S16384x256, .f32⟩
  | .local _ .vmem, ⟨1, _⟩ => ⟨S16384, .i32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S16384x896, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c2048_i32 : BitVec 32 := 2048#32
  let v11 : BitVec 32 := Scalar.muli arg6 c2048_i32
  let v12 : Index := Scalar.indexCast v11
  let c0_13 : Index := 0#32
  ![v12.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c2048_i32 : BitVec 32 := 2048#32
  let v11 : BitVec 32 := Scalar.muli arg6 c2048_i32
  let v21 : Index := Scalar.indexCast v11
  let c0_14 : Index := 0#32
  ![v21.toNat, 0]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c2048_i32 : BitVec 32 := 2048#32
  let v11 : BitVec 32 := Scalar.muli arg6 c2048_i32
  let v25 : Index := Scalar.indexCast v11
  let c256 : Index := 256#32
  ![v25.toNat, 256]
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c2048_i32 : BitVec 32 := 2048#32
  let v11 : BitVec 32 := Scalar.muli arg6 c2048_i32
  let v29 : Index := Scalar.indexCast v11
  let c512 : Index := 512#32
  ![v29.toNat, 512]
def k0_off5 (k0_t1 : Fin k0_t1_loop.trips) : Fin 2 → Nat :=
  let c0_i32 : BitVec 32 := 0#32
  let c1_i32 : BitVec 32 := 1#32
  let arg6 : BitVec 32 := Scf.iv c0_i32 c1_i32 k0_t1
  let c2048_i32 : BitVec 32 := 2048#32
  let v11 : BitVec 32 := Scalar.muli arg6 c2048_i32
  let v34 : Index := Scalar.indexCast v11
  let c768 : Index := 768#32
  ![v34.toNat, 768]
@[reducible] def k0_t2_loop : Scf.Loop 32 :=
  let c0_i32_4 : BitVec 32 := 0#32
  let c10_i32 : BitVec 32 := 10#32
  let v5 : BitVec 32 := Scalar.addi c0_i32_4 c10_i32
  let c1_i32_5 : BitVec 32 := 1#32
  ⟨c0_i32_4, v5, c1_i32_5⟩
@[reducible] def k0_t3_loop : Scf.Loop 32 :=
  let c0_i32_23 : BitVec 32 := 0#32
  let c8_i32_24 : BitVec 32 := 8#32
  let v23 : BitVec 32 := Scalar.addi c0_i32_23 c8_i32_24
  let c1_i32_25 : BitVec 32 := 1#32
  ⟨c0_i32_23, v23, c1_i32_25⟩
def k0_off6 (k0_t3 : Fin k0_t3_loop.trips) : Fin 2 → Nat :=
  let c0_i32_23 : BitVec 32 := 0#32
  let c1_i32_25 : BitVec 32 := 1#32
  let arg7 : BitVec 32 := Scf.iv c0_i32_23 c1_i32_25 k0_t3
  let c2048_i32 : BitVec 32 := 2048#32
  let v38 : BitVec 32 := Scalar.muli arg7 c2048_i32
  let v39 : Index := Scalar.indexCast v38
  let c0_35 : Index := 0#32
  ![v39.toNat, 0]
def k0_off7 (k0_t3 : Fin k0_t3_loop.trips) : Fin 2 → Nat :=
  let c0_i32_23 : BitVec 32 := 0#32
  let c1_i32_25 : BitVec 32 := 1#32
  let arg7 : BitVec 32 := Scf.iv c0_i32_23 c1_i32_25 k0_t3
  let c2048_i32 : BitVec 32 := 2048#32
  let v38 : BitVec 32 := Scalar.muli arg7 c2048_i32
  let v59 : Index := Scalar.indexCast v38
  let c0_39 : Index := 0#32
  ![v59.toNat, 0]
@[reducible] def k0_t4_loop : Scf.Loop 32 :=
  let c0_i32_9 : BitVec 32 := 0#32
  let c8_i32_10 : BitVec 32 := 8#32
  let v10 : BitVec 32 := Scalar.addi c0_i32_9 c8_i32_10
  let c1_i32_11 : BitVec 32 := 1#32
  ⟨c0_i32_9, v10, c1_i32_11⟩
def k0_off8 (k0_t4 : Fin k0_t4_loop.trips) : Fin 2 → Nat :=
  let c0_i32_9 : BitVec 32 := 0#32
  let c1_i32_11 : BitVec 32 := 1#32
  let arg6 : BitVec 32 := Scf.iv c0_i32_9 c1_i32_11 k0_t4
  let c2048_i32 : BitVec 32 := 2048#32
  let v11 : BitVec 32 := Scalar.muli arg6 c2048_i32
  let v12 : Index := Scalar.indexCast v11
  let c0_13 : Index := 0#32
  ![v12.toNat, 0]
def k0_off9 (k0_t4 : Fin k0_t4_loop.trips) : Fin 1 → Nat :=
  let c0_i32_9 : BitVec 32 := 0#32
  let c1_i32_11 : BitVec 32 := 1#32
  let arg6 : BitVec 32 := Scf.iv c0_i32_9 c1_i32_11 k0_t4
  let c2048_i32 : BitVec 32 := 2048#32
  let v11 : BitVec 32 := Scalar.muli arg6 c2048_i32
  let v27 : Index := Scalar.indexCast v11
  ![v27.toNat]
abbrev stage0_0 : Fin 1 → Memref sig .tc .vmem S16384x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x256 : Shape := ⟨2, ![16384, 256]⟩
abbrev S16x1024x256 : Shape := ⟨3, ![16, 1024, 256]⟩
abbrev S1024x256 : Shape := ⟨2, ![1024, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩
abbrev S1024x1 : Shape := ⟨2, ![1024, 1]⟩

abbrev nBuf : Space → Nat
  | .hbm => 78
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16x1024x256, .f32⟩
  | .hbm, ⟨2, _⟩ => ⟨S16384x256, .f32⟩
  | .hbm, ⟨3, _⟩ => ⟨S1024x256, .f32⟩
  | .hbm, ⟨4, _⟩ => ⟨S_, .i32⟩
  | .hbm, ⟨5, _⟩ => ⟨S16384x256, .f32⟩
  | .hbm, ⟨6, _⟩ => ⟨S_, .i32⟩
  | .hbm, ⟨7, _⟩ => ⟨S1024x256, .f32⟩
  | .hbm, ⟨8, _⟩ => ⟨S_, .i32⟩
  | .hbm, ⟨9, _⟩ => ⟨S_, .i1⟩
  | .hbm, ⟨10, _⟩ => ⟨S16384x256, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S1024x256, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S256x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .i32⟩
  | .hbm, ⟨28, _⟩ => ⟨S_, .f32⟩
  | .hbm, ⟨29, _⟩ => ⟨S_, .i32⟩
  | .hbm, ⟨30, _⟩ => ⟨S16384, .f32⟩
  | .hbm, ⟨31, _⟩ => ⟨S16384, .i32⟩
  | .hbm, ⟨32, _⟩ => ⟨S_, .f32⟩
  | .hbm, ⟨33, _⟩ => ⟨S1024x256, .f32⟩
  | .hbm, ⟨34, _⟩ => ⟨S16384x1, .i32⟩
  | .hbm, ⟨35, _⟩ => ⟨S1024x256, .f32⟩
  | .hbm, ⟨36, _⟩ => ⟨S_, .f32⟩
  | .hbm, ⟨37, _⟩ => ⟨S16384, .f32⟩
  | .hbm, ⟨38, _⟩ => ⟨S_, .f32⟩
  | .hbm, ⟨39, _⟩ => ⟨S1024, .f32⟩
  | .hbm, ⟨40, _⟩ => ⟨S16384x1, .i32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1024x1, .f32⟩
  | .hbm, ⟨46, _⟩ => ⟨S1024x256, .f32⟩
  | .hbm, ⟨47, _⟩ => ⟨S1024x256, .f32⟩
  | .hbm, ⟨48, _⟩ => ⟨S1024x1, .f32⟩
  | .hbm, ⟨49, _⟩ => ⟨S_, .f32⟩
  | .hbm, ⟨50, _⟩ => ⟨S1024x1, .f32⟩
  | .hbm, ⟨51, _⟩ => ⟨S1024x1, .i1⟩
  | .hbm, ⟨52, _⟩ => ⟨S1024x256, .i1⟩
  | .hbm, ⟨53, _⟩ => ⟨S1024x256, .f32⟩
  | .hbm, ⟨54, _⟩ => ⟨S_, .i32⟩
  | .hbm, ⟨55, _⟩ => ⟨S_, .i32⟩
  | .hbm, ⟨56, _⟩ => ⟨S16384x256, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S1024x256, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S256x1024, .f32⟩
  | .hbm, ⟨68, _⟩ => ⟨S16384x1024, .f32⟩
  | .hbm, ⟨69, _⟩ => ⟨S_, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .i32⟩
  | .hbm, ⟨74, _⟩ => ⟨S_, .f32⟩
  | .hbm, ⟨75, _⟩ => ⟨S_, .i32⟩
  | .hbm, ⟨76, _⟩ => ⟨S16384, .f32⟩
  | .hbm, ⟨77, _⟩ => ⟨S16384, .i32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_while0c_c_4 : Ref sig .tc := ⟨.hbm, 8, rfl⟩
abbrev main_while0c_v19 : Ref sig .tc := ⟨.hbm, 9, rfl⟩
abbrev main_while0b_v19 : Ref sig .tc := ⟨.hbm, 10, rfl⟩
abbrev main_while0b_cst_4 : Ref sig .tc := ⟨.hbm, 11, rfl⟩
abbrev main_while0b_v20 : Ref sig .tc := ⟨.hbm, 12, rfl⟩
abbrev main_while0b_v21 : Ref sig .tc := ⟨.hbm, 13, rfl⟩
abbrev main_while0b_v22 : Ref sig .tc := ⟨.hbm, 14, rfl⟩
abbrev main_while0b_cst_5 : Ref sig .tc := ⟨.hbm, 15, rfl⟩
abbrev main_while0b_v23 : Ref sig .tc := ⟨.hbm, 16, rfl⟩
abbrev main_while0b_v24 : Ref sig .tc := ⟨.hbm, 17, rfl⟩
abbrev main_while0b_v25 : Ref sig .tc := ⟨.hbm, 18, rfl⟩
abbrev main_while0b_v26 : Ref sig .tc := ⟨.hbm, 19, rfl⟩
abbrev main_while0b_v27 : Ref sig .tc := ⟨.hbm, 20, rfl⟩
abbrev main_while0b_v28 : Ref sig .tc := ⟨.hbm, 21, rfl⟩
abbrev main_while0b_v29 : Ref sig .tc := ⟨.hbm, 22, rfl⟩
abbrev main_while0b_cst_6 : Ref sig .tc := ⟨.hbm, 23, rfl⟩
abbrev main_while0b_v30 : Ref sig .tc := ⟨.hbm, 24, rfl⟩
abbrev main_while0b_v31 : Ref sig .tc := ⟨.hbm, 25, rfl⟩
abbrev main_while0b_v32 : Ref sig .tc := ⟨.hbm, 26, rfl⟩
abbrev main_while0b_call0_v0 : Ref sig .tc := ⟨.hbm, 27, rfl⟩
abbrev main_while0b_call0_cst : Ref sig .tc := ⟨.hbm, 28, rfl⟩
abbrev main_while0b_call0_c : Ref sig .tc := ⟨.hbm, 29, rfl⟩
abbrev main_while0b_call0_v1_0 : Ref sig .tc := ⟨.hbm, 30, rfl⟩
abbrev main_while0b_v33 : Ref sig .tc := ⟨.hbm, 31, rfl⟩
abbrev main_while0b_cst_7 : Ref sig .tc := ⟨.hbm, 32, rfl⟩
abbrev main_while0b_v34 : Ref sig .tc := ⟨.hbm, 33, rfl⟩
abbrev main_while0b_v35 : Ref sig .tc := ⟨.hbm, 34, rfl⟩
abbrev main_while0b_v36 : Ref sig .tc := ⟨.hbm, 35, rfl⟩
abbrev main_while0b_cst_8 : Ref sig .tc := ⟨.hbm, 36, rfl⟩
abbrev main_while0b_v37 : Ref sig .tc := ⟨.hbm, 37, rfl⟩
abbrev main_while0b_cst_9 : Ref sig .tc := ⟨.hbm, 38, rfl⟩
abbrev main_while0b_v38 : Ref sig .tc := ⟨.hbm, 39, rfl⟩
abbrev main_while0b_v39 : Ref sig .tc := ⟨.hbm, 40, rfl⟩
abbrev main_while0b_v40 : Ref sig .tc := ⟨.hbm, 41, rfl⟩
abbrev main_while0b_cst_10 : Ref sig .tc := ⟨.hbm, 42, rfl⟩
abbrev main_while0b_v41 : Ref sig .tc := ⟨.hbm, 43, rfl⟩
abbrev main_while0b_v42 : Ref sig .tc := ⟨.hbm, 44, rfl⟩
abbrev main_while0b_v43 : Ref sig .tc := ⟨.hbm, 45, rfl⟩
abbrev main_while0b_v44 : Ref sig .tc := ⟨.hbm, 46, rfl⟩
abbrev main_while0b_v45 : Ref sig .tc := ⟨.hbm, 47, rfl⟩
abbrev main_while0b_v46 : Ref sig .tc := ⟨.hbm, 48, rfl⟩
abbrev main_while0b_cst_11 : Ref sig .tc := ⟨.hbm, 49, rfl⟩
abbrev main_while0b_v47 : Ref sig .tc := ⟨.hbm, 50, rfl⟩
abbrev main_while0b_v48 : Ref sig .tc := ⟨.hbm, 51, rfl⟩
abbrev main_while0b_call1_v0 : Ref sig .tc := ⟨.hbm, 52, rfl⟩
abbrev main_while0b_v49 : Ref sig .tc := ⟨.hbm, 53, rfl⟩
abbrev main_while0b_c_12 : Ref sig .tc := ⟨.hbm, 54, rfl⟩
abbrev main_while0b_v50 : Ref sig .tc := ⟨.hbm, 55, rfl⟩
abbrev main_v4 : Ref sig .tc := ⟨.hbm, 56, rfl⟩
abbrev main_cst : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_cst_0 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_cst_1 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_call2_v0 : Ref sig .tc := ⟨.hbm, 73, rfl⟩
abbrev main_call2_cst : Ref sig .tc := ⟨.hbm, 74, rfl⟩
abbrev main_call2_c : Ref sig .tc := ⟨.hbm, 75, rfl⟩
abbrev main_call2_v1_0 : Ref sig .tc := ⟨.hbm, 76, rfl⟩
abbrev main_v18 : Ref sig .tc := ⟨.hbm, 77, rfl⟩

abbrev nD : Nat := 1
abbrev τ : Topo := Topo.v7x

variable {F : FTy → Type} [FloatOps F]

abbrev main_while0_count : Scf.Loop 32 := ⟨0#32, 10#32, 1#32⟩
-- ==== Proof.PI.Contents.lean ====
/-
  What the buffers of `KernelIdeal` hold, as functions of the points `fx` (the contents of the input's staging buffer),
  at any float values: the augmented points after the first loop (`xaug`), the sums and counts after some blocks of a
  Lloyd step (`accTo`), the centroids after some Lloyd steps (`centTo`), and the assignment the kernel stores (`asg`).
-/
module

public import proofs.«01_k».proof.Proof.Gen.KernelIdeal.Skeleton
public import Idealize.ShloMosaic.Lib.VecWindow
public import proofs.«01_k».proof.Proof.P.Run

@[expose] public section

noncomputable section

namespace Cert.Proof.PI

open Cert.KernelIdeal Cert.KernelIdeal.Gen
open Idealize.ShloMosaic Idealize.ShloMosaic.VecWindow

variable {F : FTy → Type} [FloatOps F]

/-- The loops' trips: eight blocks in the first, -/
theorem trips1 : k0_t1_loop.trips = 8 := by decide
/-- ten Lloyd steps, -/
theorem trips2 : k0_t2_loop.trips = 10 := by decide
/-- eight blocks in each, -/
theorem trips3 : k0_t3_loop.trips = 8 := by decide
/-- and eight blocks in the last. -/
theorem trips4 : k0_t4_loop.trips = 8 := by decide

/-- The block of points that the first loop's trip `k` reads: rows `2048 k` up to `2048 k + 2047`. -/
def blk1 (fx : Vec F S16384x256 .f32) (k : Fin k0_t1_loop.trips) : Vec F S2048x256 .f32 :=
  window fx (k0_off1 k) S2048x256.size (k0_off1_inb k)

/-- The augmented points after trip `k` of the first loop, over `g` before it: the rows of the block hold the three
    pieces of the split points and a column block of ones. -/
def put1 (fx : Vec F S16384x256 .f32) (g : Vec F S16384x896 .bf16) (k : Fin k0_t1_loop.trips) : Vec F S16384x896 .bf16 :=
  put (put (put (put g (k0_off2 k) S2048x256.size (k0_pay5 (blk1 fx k))) (k0_off3 k) S2048x256.size (k0_pay6 (blk1 fx k)))
    (k0_off4 k) S2048x256.size (k0_pay7 (blk1 fx k))) (k0_off5 k) S2048x128.size (k0_pay8 (F := F))

/-- The block of rows that row `r` lies in. -/
def trip1 (i : S16384x896.Idx) : Fin k0_t1_loop.trips :=
  ⟨(i 0).val / 2048, by rw [trips1]; have h : (i 0).val < 16384 := (i 0).isLt; omega⟩

/-- The augmented points: every row as the trip of its block stores it. -/
def xaug (fx : Vec F S16384x256 .f32) : Vec F S16384x896 .bf16 := fun i =>
  put1 fx (fun _ => Scalar.ofBits .bf16 0x0000#16) (trip1 i) i

/-- The block of points that the accumulating loop's trip `k` reads, -/
def blk3 (fx : Vec F S16384x256 .f32) (k : Fin k0_t3_loop.trips) : Vec F S2048x256 .f32 :=
  window fx (k0_off6 k) S2048x256.size (k0_off6_inb k)
/-- and its block of the augmented points. -/
def ablk3 (fa : Vec F S16384x896 .bf16) (k : Fin k0_t3_loop.trips) : Vec F S2048x896 .bf16 :=
  window fa (k0_off7 k) S2048x896.size (k0_off7_inb k)

/-- The sums and the counts after `n` blocks of a Lloyd step from the centroids `cent`. -/
def accTo (fx : Vec F S16384x256 .f32) (fa : Vec F S16384x896 .bf16) (cent : Vec F S1024x256 .f32) :
    ℕ → Vec F S1024x256 .f32 × Vec F S1024x1 .f32
  | 0 => (k0_pay9, k0_pay10)
  | n + 1 => if h : n < k0_t3_loop.trips then
      (k0_pay12 cent (blk3 fx ⟨n, h⟩) (ablk3 fa ⟨n, h⟩) (accTo fx fa cent n).1,
       k0_pay13 cent (blk3 fx ⟨n, h⟩) (ablk3 fa ⟨n, h⟩) (accTo fx fa cent n).2)
    else accTo fx fa cent n

/-- One block more adds its sums and its counts. -/
theorem accTo_succ (fx : Vec F S16384x256 .f32) (fa : Vec F S16384x896 .bf16) (cent : Vec F S1024x256 .f32)
    (k : Fin k0_t3_loop.trips) :
    accTo fx fa cent (k.val + 1)
      = (k0_pay12 cent (blk3 fx k) (ablk3 fa k) (accTo fx fa cent k.val).1,
         k0_pay13 cent (blk3 fx k) (ablk3 fa k) (accTo fx fa cent k.val).2) := by
  rw [accTo, dif_pos k.isLt]

/-- One Lloyd step: the centroids after it, from those before. -/
def step (fx : Vec F S16384x256 .f32) (fa : Vec F S16384x896 .bf16) (cent : Vec F S1024x256 .f32) : Vec F S1024x256 .f32 :=
  k0_pay14 cent (accTo fx fa cent k0_t3_loop.trips).2 (accTo fx fa cent k0_t3_loop.trips).1

/-- The centroids before the first step: the first 1024 points; -/
def cent0 (fx : Vec F S16384x256 .f32) : Vec F S1024x256 .f32 :=
  k0_pay1 (window fx ![0, 0] S1024x256.size inb_S16384x256_S1024x256_0_0)

/-- and after `n` steps. -/
def centTo (fx : Vec F S16384x256 .f32) : ℕ → Vec F S1024x256 .f32
  | 0 => cent0 fx
  | n + 1 => step fx (xaug fx) (centTo fx n)

/-- The block of points that the last loop's trip `k` reads. -/
def blk4 (fx : Vec F S16384x256 .f32) (k : Fin k0_t4_loop.trips) : Vec F S2048x256 .f32 :=
  window fx (k0_off8 k) S2048x256.size (k0_off8_inb k)

/-- The result after trip `k` of the last loop, over `g` before it. -/
def put4 (fx : Vec F S16384x256 .f32) (cent : Vec F S1024x256 .f32) (g : IVec S16384 32) (k : Fin k0_t4_loop.trips) : IVec S16384 32 :=
  put g (k0_off9 k) S2048.size (k0_pay15 cent (blk4 fx k))

/-- The block of rows that row `i` lies in, as a trip of the last loop. -/
def trip4 (i : S16384.Idx) : Fin k0_t4_loop.trips :=
  ⟨(i 0).val / 2048, by rw [trips4]; have h : (i 0).val < 16384 := (i 0).isLt; omega⟩

/-- The assignment to the centroids `cent`: every row as the trip of its block stores it. -/
def asg (fx : Vec F S16384x256 .f32) (cent : Vec F S1024x256 .f32) : IVec S16384 32 := fun i =>
  put4 fx cent (fun _ => 0#32) (trip4 i) i

/-- The kernel's result. -/
def out (fx : Vec F S16384x256 .f32) : IVec S16384 32 := asg fx (centTo fx k0_t2_loop.trips)

/-- A put that does not reach a row leaves it as it was; -/
theorem put_miss {α : Type} {s : Shape} (x : s.Idx → α) (off size : Fin s.rank → ℕ) (w : ((a : Fin s.rank) → Fin (size a)) → α)
    (i : s.Idx) (a : Fin s.rank) (h : (i a).val < off a ∨ off a + size a ≤ (i a).val) : put x off size w i = x i := by
  unfold put
  rw [dif_neg]
  intro hall
  have := hall a
  omega

/-- and a put that reaches it does not depend on what was there. -/
theorem put_hit {α : Type} {s : Shape} (x x' : s.Idx → α) (off size : Fin s.rank → ℕ) (w : ((a : Fin s.rank) → Fin (size a)) → α)
    (i : s.Idx) (h : ∀ a, off a ≤ (i a).val ∧ (i a).val < off a + size a) : put x off size w i = put x' off size w i := by
  unfold put
  rw [dif_pos h, dif_pos h]

/-- Puts over contents that agree at a place agree there. -/
theorem put_congr {α : Type} {s : Shape} (x x' : s.Idx → α) (off size : Fin s.rank → ℕ) (w : ((a : Fin s.rank) → Fin (size a)) → α)
    (i : s.Idx) (h : x i = x' i) : put x off size w i = put x' off size w i := by
  unfold put
  split
  · rfl
  · exact h

/-- Where the first loop's trip `k` stores its four pieces. -/
theorem offs1 (k : Fin k0_t1_loop.trips) : k0_off2 k = ![2048 * k.val, 0] ∧ k0_off3 k = ![2048 * k.val, 256]
    ∧ k0_off4 k = ![2048 * k.val, 512] ∧ k0_off5 k = ![2048 * k.val, 768] :=
  ⟨k0_off2_eq k, k0_off3_eq k, k0_off4_eq k, k0_off5_eq k⟩

/-- A trip of the first loop takes "the rows of the blocks so far are the augmented points'" to the next block. -/
theorem put1_inv (fx : Vec F S16384x256 .f32) (g : Vec F S16384x896 .bf16) (k : Fin k0_t1_loop.trips)
    (hg : ∀ i : S16384x896.Idx, (i 0).val < 2048 * k.val → g i = xaug fx i) (i : S16384x896.Idx)
    (hi : (i 0).val < 2048 * (k.val + 1)) : put1 fx g k i = xaug fx i := by
  obtain ⟨o2, o3, o4, o5⟩ := offs1 k
  have hc : (i 1).val < 896 := (i 1).isLt
  by_cases hlt : (i 0).val < 2048 * k.val
  · rw [← hg i hlt]
    unfold put1
    rw [put_miss _ _ _ _ i 0 (Or.inl (by rw [o5]; exact hlt)), put_miss _ _ _ _ i 0 (Or.inl (by rw [o4]; exact hlt)),
      put_miss _ _ _ _ i 0 (Or.inl (by rw [o3]; exact hlt)), put_miss _ _ _ _ i 0 (Or.inl (by rw [o2]; exact hlt))]
  · have hk : trip1 i = k := Fin.ext (by show (i 0).val / 2048 = k.val; omega)
    unfold xaug
    rw [hk]
    unfold put1
    by_cases h5 : 768 ≤ (i 1).val
    · exact put_hit _ _ _ _ _ i (by
        rw [o5]; refine Fin.forall_fin_two.2 ⟨⟨?_, ?_⟩, ⟨?_, ?_⟩⟩
        · show 2048 * k.val ≤ (i 0).val; omega
        · show (i 0).val < 2048 * k.val + 2048; omega
        · exact h5
        · show (i 1).val < 768 + 128; omega)
    refine put_congr _ _ _ _ _ i ?_
    by_cases h4 : 512 ≤ (i 1).val
    · exact put_hit _ _ _ _ _ i (by
        rw [o4]; refine Fin.forall_fin_two.2 ⟨⟨?_, ?_⟩, ⟨?_, ?_⟩⟩
        · show 2048 * k.val ≤ (i 0).val; omega
        · show (i 0).val < 2048 * k.val + 2048; omega
        · exact h4
        · show (i 1).val < 512 + 256; omega)
    refine put_congr _ _ _ _ _ i ?_
    by_cases h3 : 256 ≤ (i 1).val
    · exact put_hit _ _ _ _ _ i (by
        rw [o3]; refine Fin.forall_fin_two.2 ⟨⟨?_, ?_⟩, ⟨?_, ?_⟩⟩
        · show 2048 * k.val ≤ (i 0).val; omega
        · show (i 0).val < 2048 * k.val + 2048; omega
        · exact h3
        · show (i 1).val < 256 + 256; omega)
    refine put_congr _ _ _ _ _ i ?_
    exact put_hit _ _ _ _ _ i (by
        rw [o2]; refine Fin.forall_fin_two.2 ⟨⟨?_, ?_⟩, ⟨?_, ?_⟩⟩
        · show 2048 * k.val ≤ (i 0).val; omega
        · show (i 0).val < 2048 * k.val + 2048; omega
        · exact Nat.zero_le _
        · show (i 1).val < 0 + 256; omega)

/-- A trip of the last loop takes "the rows of the blocks so far are the assignment's" to the next block. -/
theorem put4_inv (fx : Vec F S16384x256 .f32) (cent : Vec F S1024x256 .f32) (g : IVec S16384 32) (k : Fin k0_t4_loop.trips)
    (hg : ∀ i : S16384.Idx, (i 0).val < 2048 * k.val → g i = asg fx cent i) (i : S16384.Idx)
    (hi : (i 0).val < 2048 * (k.val + 1)) : put4 fx cent g k i = asg fx cent i := by
  have o9 : k0_off9 k = ![2048 * k.val] := k0_off9_eq k
  by_cases hlt : (i 0).val < 2048 * k.val
  · rw [← hg i hlt]
    exact put_miss _ _ _ _ i 0 (Or.inl (by rw [o9]; exact hlt))
  · have hk : trip4 i = k := Fin.ext (by show (i 0).val / 2048 = k.val; omega)
    unfold asg
    rw [hk]
    exact put_hit _ _ _ _ _ i (by
      rw [o9]; refine Fin.forall_fin_one.2 ⟨?_, ?_⟩
      · show 2048 * k.val ≤ (i 0).val; omega
      · show (i 0).val < 2048 * k.val + 2048; omega)

end Cert.Proof.PI

end
-- ==== Proof.PI.Body.lean ====
/-
  The kernel body of `KernelIdeal` on its staging buffers and scratch, at any float values: each counted loop by an
  invariant that names what its buffers hold before a trip, and the body from the points to the assignment.
-/
module

public import proofs.«01_k».proof.Proof.PI.Contents
public import proofs.«01_k».proof.Proof.Gen.KernelIdeal.Launch
public import proofs.«01_k».proof.Proof.Gen.KernelIdeal.Points
public import Idealize.ShloMosaic.Lib.Tactic
public import Idealize.ShloMosaic.Lib.Ring
public import Idealize.ShloMosaic.Lib.Pipeline.Kit

@[expose] public section

noncomputable section

namespace Cert.Proof.PI

open Cert.KernelIdeal Cert.KernelIdeal.Gen
open Idealize.ShloMosaic Idealize.ShloMosaic.TcCoe Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost algebra: the rounds library's over the machine's cells. -/
abbrev UR' (nD : Nat) (τ : Topo) : Type := URounds (GSem nD τ sig) Unit

local notation "𝕄" => MT nD τ sig Unit (Elt F) ℕ (UR' nD τ) ℕ

/-- No variants: the body makes no calls. -/
abbrev 𝒱₀ : Variants := Variants.none

/-! ### Loads and stores of whole buffers -/

section Access

variable (b : Ref sig .tc) (f : b.ty.Contents (Elt F))

omit [FloatOps F] in
/-- A load at a rectangle of a whole buffer reads a window of its contents; -/
theorem readAt_whole {off size : Fin b.ty.shape.rank → ℕ} (inb : ∀ a, off a + size a ≤ b.ty.shape.size a) :
    (Memref.whole b : Memref sig .tc _ _ _).view.readAt (Elt F) (Rect.unit off size inb).toLoadRect f = window f off size inb := rfl

omit [FloatOps F] in
/-- a store at a rectangle of a whole buffer puts the payload there. -/
theorem write_whole {off size : Fin b.ty.shape.rank → ℕ} (inb : ∀ a, off a + size a ≤ b.ty.shape.size a)
    (w : (Rect.unit off size inb).shape.Idx → Elt F b.ty.elt) :
    ((Memref.whole b).access (Rect.unit off size inb) : View sig .tc _ _ _).write (Elt F) f w Finset.univ = put f off size w :=
  View.read_writes_cons_put (Memref.whole b : Memref sig .tc _ _ _).view f inb w [] rfl

end Access

/-- The offsets of a whole-array access are zero. -/
theorem zeros : (![0, 0] : Fin 2 → Nat) = fun _ => 0 := funext fun a => by fin_cases a <;> rfl

omit [FloatOps F] in
/-- `cc0_scratch0` loaded whole reads its contents, -/
theorem ldC (g : Vec F S1024x256 .f32) :
    (Memref.whole cc0_scratch0 : Memref sig .tc _ _ _).view.readAt (Elt F) (Rect.unit (s := S1024x256) ![0, 0] ![1024, 256] inb_S1024x256_S1024x256_0_0).toLoadRect g = g :=
  Memref.readAt_unit_zero (Elt F) cc0_scratch0 zeros _ g

omit [FloatOps F] in
/-- and stored whole holds the payload. -/
theorem stC (g w : Vec F S1024x256 .f32) :
    ((Memref.whole cc0_scratch0).access (Rect.unit (s := S1024x256) ![0, 0] ![1024, 256] inb_S1024x256_S1024x256_0_0) : View sig .tc _ _ _).write (Elt F) g w Finset.univ = w :=
  Memref.write_access_unit_zero_univ (Elt F) cc0_scratch0 zeros _ g w

omit [FloatOps F] in
/-- `cc0_scratch1` loaded whole reads its contents, -/
theorem ldS (g : Vec F S1024x256 .f32) :
    (Memref.whole cc0_scratch1 : Memref sig .tc _ _ _).view.readAt (Elt F) (Rect.unit (s := S1024x256) ![0, 0] ![1024, 256] inb_S1024x256_S1024x256_0_0).toLoadRect g = g :=
  Memref.readAt_unit_zero (Elt F) cc0_scratch1 zeros _ g

omit [FloatOps F] in
/-- and stored whole holds the payload. -/
theorem stS (g w : Vec F S1024x256 .f32) :
    ((Memref.whole cc0_scratch1).access (Rect.unit (s := S1024x256) ![0, 0] ![1024, 256] inb_S1024x256_S1024x256_0_0) : View sig .tc _ _ _).write (Elt F) g w Finset.univ = w :=
  Memref.write_access_unit_zero_univ (Elt F) cc0_scratch1 zeros _ g w

omit [FloatOps F] in
/-- `cc0_scratch2` loaded whole reads its contents, -/
theorem ldN (g : Vec F S1024x1 .f32) :
    (Memref.whole cc0_scratch2 : Memref sig .tc _ _ _).view.readAt (Elt F) (Rect.unit (s := S1024x1) ![0, 0] ![1024, 1] inb_S1024x1_S1024x1_0_0).toLoadRect g = g :=
  Memref.readAt_unit_zero (Elt F) cc0_scratch2 zeros _ g

omit [FloatOps F] in
/-- and stored whole holds the payload. -/
theorem stN (g w : Vec F S1024x1 .f32) :
    ((Memref.whole cc0_scratch2).access (Rect.unit (s := S1024x1) ![0, 0] ![1024, 1] inb_S1024x1_S1024x1_0_0) : View sig .tc _ _ _).write (Elt F) g w Finset.univ = w :=
  Memref.write_access_unit_zero_univ (Elt F) cc0_scratch2 zeros _ g w

/-! ### The buffers -/

/-- The buffer `b` of core `c` whole at contents `f`. -/
abbrev at' (c : Dev nD) (b : Ref sig .tc) (f : Buf (Elt F) ((c : Thread nD τ).loc b)) : sProp 𝕄 :=
  iprop(((c : Thread nD τ).loc b) ↦{fullShare} f)

/-- The points' staging buffer at `fx`. -/
abbrev atX (c : Dev nD) (fx : Vec F S16384x256 .f32) : sProp 𝕄 := at' c cc0_stg0_0 fx
/-- The result's staging buffer at `g`. -/
abbrev atO (c : Dev nD) (g : IVec S16384 32) : sProp 𝕄 := at' (F := F) c cc0_stg1_0 g
/-- The centroids' buffer. -/
abbrev atC (c : Dev nD) (g : Vec F S1024x256 .f32) : sProp 𝕄 := at' c cc0_scratch0 g
/-- The sums' buffer. -/
abbrev atS (c : Dev nD) (g : Vec F S1024x256 .f32) : sProp 𝕄 := at' c cc0_scratch1 g
/-- The counts' buffer. -/
abbrev atN (c : Dev nD) (g : Vec F S1024x1 .f32) : sProp 𝕄 := at' c cc0_scratch2 g
/-- The augmented points' buffer. -/
abbrev atA (c : Dev nD) (g : Vec F S16384x896 .bf16) : sProp 𝕄 := at' c cc0_scratch3 g

/-! ### The loops' invariants -/

/-- The first loop: before trip `k` the rows of the blocks so far hold the augmented points. -/
def inv1 (c : Dev nD) (fx : Vec F S16384x256 .f32) (k : ℕ) (_ : Unit) : sProp 𝕄 :=
  iprop(∃ g : Vec F S16384x896 .bf16, ⌜∀ i : S16384x896.Idx, (i 0).val < 2048 * k → g i = xaug fx i⌝ ∗ atX c fx ∗ atA c g)

/-- The accumulating loop: before trip `k` the sums and counts are those of the blocks so far. -/
def inv3 (c : Dev nD) (fx : Vec F S16384x256 .f32) (fa : Vec F S16384x896 .bf16) (cent : Vec F S1024x256 .f32) (k : ℕ) (_ : Unit) : sProp 𝕄 :=
  iprop(∃ (g : Vec F S1024x256 .f32) (h : Vec F S1024x1 .f32), ⌜(g, h) = accTo fx fa cent k⌝ ∗ atX c fx ∗ atA c fa ∗ atS c g ∗ atN c h)

/-- The Lloyd loop: before trip `k` the centroids are those after `k` steps. -/
def inv2 (c : Dev nD) (fx : Vec F S16384x256 .f32) (k : ℕ) (_ : Unit) : sProp 𝕄 :=
  iprop(∃ (s : Vec F S1024x256 .f32) (n : Vec F S1024x1 .f32) (g : Vec F S1024x256 .f32),
    ⌜g = centTo fx k⌝ ∗ atX c fx ∗ atA c (xaug fx) ∗ atC c g ∗ atS c s ∗ atN c n)

/-- The last loop: before trip `k` the rows of the blocks so far hold the assignment. -/
def inv4 (c : Dev nD) (fx : Vec F S16384x256 .f32) (cent : Vec F S1024x256 .f32) (k : ℕ) (_ : Unit) : sProp 𝕄 :=
  iprop(∃ g : IVec S16384 32, ⌜∀ i : S16384.Idx, (i 0).val < 2048 * k → g i = asg fx cent i⌝ ∗ atX c fx ∗ atO (F := F) c g)

/-! ### One trip of each -/

/-- The first loop's region on the kernel's buffers, -/
abbrev body1 : Fin k0_t1_loop.trips → Unit → Prog (TpuEff nD τ sig (Elt F) Λ₀ .tc) Unit :=
  k0_t1_body (F := F) (Memref.whole cc0_stg0_0) (Memref.isWhole_whole _) (Memref.whole cc0_stg1_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
/-- the Lloyd loop's, -/
abbrev body2 : Fin k0_t2_loop.trips → Unit → Prog (TpuEff nD τ sig (Elt F) Λ₀ .tc) Unit :=
  k0_t2_body (F := F) (Memref.whole cc0_stg0_0) (Memref.isWhole_whole _) (Memref.whole cc0_stg1_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
/-- the accumulating loop's -/
abbrev body3 (cent : Vec F S1024x256 .f32) : Fin k0_t3_loop.trips → Unit → Prog (TpuEff nD τ sig (Elt F) Λ₀ .tc) Unit :=
  k0_t3_body (F := F) (Memref.whole cc0_stg0_0) (Memref.isWhole_whole _) (Memref.whole cc0_stg1_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _) cent
/-- and the last loop's. -/
abbrev body4 (cent : Vec F S1024x256 .f32) : Fin k0_t4_loop.trips → Unit → Prog (TpuEff nD τ sig (Elt F) Λ₀ .tc) Unit :=
  k0_t4_body (F := F) (Memref.whole cc0_stg0_0) (Memref.isWhole_whole _) (Memref.whole cc0_stg1_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _) cent

/-- A trip of the first loop stores its block of the augmented points. -/
theorem trip1_sound (c : Dev nD) (fx : Vec F S16384x256 .f32) (k : Fin k0_t1_loop.trips) (u : Unit) :
    inv1 c fx k.val u ⊢ wp frame (wpE (defs₀ (F := F)) 𝒱₀ (c : Thread nD τ) none) Set.univ (body1 k u) (inv1 c fx (k.val + 1)) := by
  unfold inv1 body1 k0_t1_body
  simp only [Prog.lift, Prog.bind_op, Prog.bind_ret, Prog.pure_eq_ret]
  iintro ⟨%g, %hg, Hx, Ha⟩
  sl_steps
  iexists _
  isplitr
  swap
  · isplitl [Hx]; · iexact Hx
    iexact Ha
  ipureintro
  intro i hi
  refine Eq.trans ?_ (put1_inv fx g k hg i hi)
  refine congrFun ?_ i
  unfold put1
  rw [← write_whole cc0_scratch3 g (k0_off2_inb k), ← write_whole cc0_scratch3 _ (k0_off3_inb k),
    ← write_whole cc0_scratch3 _ (k0_off4_inb k), ← write_whole cc0_scratch3 _ (k0_off5_inb k)]
  rfl

/-- A trip of the accumulating loop adds its block's sums and counts. -/
theorem trip3_sound (c : Dev nD) (fx : Vec F S16384x256 .f32) (fa : Vec F S16384x896 .bf16) (cent : Vec F S1024x256 .f32)
    (k : Fin k0_t3_loop.trips) (u : Unit) :
    inv3 c fx fa cent k.val u
      ⊢ wp frame (wpE (defs₀ (F := F)) 𝒱₀ (c : Thread nD τ) none) Set.univ (body3 cent k u) (inv3 c fx fa cent (k.val + 1)) := by
  unfold inv3 body3 k0_t3_body
  simp only [Prog.lift, Prog.bind_op, Prog.bind_ret, Prog.pure_eq_ret]
  iintro ⟨%g, %h, %hg, Hx, Ha, Hs, Hn⟩
  sl_steps
  iexists _, _
  isplitr
  swap
  · isplitl [Hx]; · iexact Hx
    isplitl [Ha]; · iexact Ha
    isplitl [Hs]; · iexact Hs
    iexact Hn
  ipureintro
  rw [accTo_succ, ← hg]
  exact congrArg₂ Prod.mk ((stS g _).trans (congrArg (k0_pay12 cent (blk3 fx k) (ablk3 fa k)) (ldS g)))
    ((stN h _).trans (congrArg (k0_pay13 cent (blk3 fx k) (ablk3 fa k)) (ldN h)))

/-- A trip of the last loop stores its block's assignment. -/
theorem trip4_sound (c : Dev nD) (fx : Vec F S16384x256 .f32) (cent : Vec F S1024x256 .f32) (k : Fin k0_t4_loop.trips) (u : Unit) :
    inv4 c fx cent k.val u
      ⊢ wp frame (wpE (defs₀ (F := F)) 𝒱₀ (c : Thread nD τ) none) Set.univ (body4 cent k u) (inv4 c fx cent (k.val + 1)) := by
  unfold inv4 body4 k0_t4_body
  simp only [Prog.lift, Prog.bind_op, Prog.bind_ret, Prog.pure_eq_ret]
  iintro ⟨%g, %hg, Hx, Ho⟩
  sl_steps
  iexists _
  isplitr
  swap
  · isplitl [Hx]; · iexact Hx
    iexact Ho
  ipureintro
  intro i hi
  refine Eq.trans ?_ (put4_inv fx cent g k hg i hi)
  refine congrFun ?_ i
  unfold put4
  rw [← write_whole cc0_stg1_0 g (k0_off9_inb k)]
  rfl

/-- A trip of the Lloyd loop takes the centroids one step further. -/
theorem trip2_sound (c : Dev nD) (fx : Vec F S16384x256 .f32) (k : Fin k0_t2_loop.trips) (u : Unit) :
    inv2 c fx k.val u
      ⊢ wp frame (wpE (defs₀ (F := F)) 𝒱₀ (c : Thread nD τ) none) Set.univ (body2 k u) (inv2 c fx (k.val + 1)) := by
  unfold inv2 body2 k0_t2_body
  simp only [Prog.lift, Prog.bind_op, Prog.bind_ret, Prog.pure_eq_ret]
  iintro ⟨%s, %n, %g, %hg, Hx, Ha, Hc, Hs, Hn⟩
  iapply (wp_load 𝒱₀ (c : Thread nD τ) none Set.univ (m := Memref.whole cc0_scratch0) (Finset.subset_univ _)) $$ Hc; iintro Hc
  iapply (wp_load 𝒱₀ (c : Thread nD τ) none Set.univ (m := Memref.whole cc0_scratch1) (Finset.subset_univ _)) $$ Hs; iintro Hs
  iapply (wp_store 𝒱₀ (c : Thread nD τ) none Set.univ (m := Memref.whole cc0_scratch1) (r := Rect.unit (s := S1024x256) ![0, 0] S1024x256.size inb_S1024x256_S1024x256_0_0) (Mk := Finset.univ) (Finset.subset_univ _)) $$ Hs; iintro Hs
  iapply (wp_load 𝒱₀ (c : Thread nD τ) none Set.univ (m := Memref.whole cc0_scratch2) (Finset.subset_univ _)) $$ Hn; iintro Hn
  iapply (wp_store 𝒱₀ (c : Thread nD τ) none Set.univ (m := Memref.whole cc0_scratch2) (r := Rect.unit (s := S1024x1) ![0, 0] S1024x1.size inb_S1024x1_S1024x1_0_0) (Mk := Finset.univ) (Finset.subset_univ _)) $$ Hn; iintro Hn
  -- the accumulating loop, at the centroids just loaded
  iapply (Scf.wp_for_bind frame (wpE (defs₀ (F := F)) 𝒱₀ (c : Thread nD τ) none) Set.univ _ _ _ k0_t3_ok _ _
    (inv3 c fx (xaug fx) _) (trip3_sound c fx (xaug fx) _)) $$ [Hx Ha Hs Hn]
  · unfold inv3
    iexists _, _
    isplitr
    swap
    · isplitl [Hx]; · iexact Hx
      isplitl [Ha]; · iexact Ha
      isplitl [Hs]; · iexact Hs
      iexact Hn
    ipureintro
    exact congrArg₂ Prod.mk (stS s _) (stN n _)
  iintro %u' Hinv
  unfold inv3
  icases Hinv with ⟨%s', %n', %hsn, Hx, Ha, Hs, Hn⟩
  sl_steps
  iexists _, _, _
  isplitr
  swap
  · isplitl [Hx]; · iexact Hx
    isplitl [Ha]; · iexact Ha
    isplitl [Hc]; · iexact Hc
    isplitl [Hs]; · iexact Hs
    iexact Hn
  ipureintro
  rw [ldC] at hsn
  obtain ⟨rfl, rfl⟩ := Prod.mk.inj hsn
  refine (stC g _).trans ?_
  rw [ldC, ldS, ldN, hg]
  rfl

/-! ### The body -/

/-- The scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The body from the points `fx`, any result and any scratch: the result's buffer ends at the assignment to the
    centroids of the last step, the points and the scratch are given back. -/
theorem body_sound (c : Dev nD) (fx : Vec F S16384x256 .f32) (g : IVec S16384 32) (K : PUnit → sProp 𝕄) :
    iprop((atX c fx ∗ atO (F := F) c g ∗ scratch c) ∗ ((atX c fx ∗ atO (F := F) c (out fx) ∗ scratch c) -∗ K ⟨⟩))
      ⊢ wp frame (wpE (defs₀ (F := F)) 𝒱₀ (c : Thread nD τ) none) Set.univ
          (cc0__km_kernel (F := F) (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)) K := by
  rw [cc0__km_kernel_eq_skeleton]
  unfold cc0__km_kernel_skel scratch
  simp only [Prog.lift, Prog.bind_op, Prog.bind_ret, Prog.pure_eq_ret]
  iintro ⟨⟨Hx, Ho, ⟨%gc, Hc⟩, ⟨%gs, Hs⟩, ⟨%gn, Hn⟩, ⟨%ga, Ha⟩⟩, Hk⟩
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_scratch0) (Finset.subset_univ _)) $$ Hc; iintro Hc
  iapply (wp_store 𝒱₀ (c : Thread nD τ) none Set.univ (m := Memref.whole cc0_scratch0) (r := Rect.unit (s := S1024x256) ![0, 0] S1024x256.size inb_S1024x256_S1024x256_0_0) (Mk := Finset.univ) (Finset.subset_univ _)) $$ Hc; iintro Hc
  -- the augmented points
  iapply (Scf.wp_for_bind frame (wpE (defs₀ (F := F)) 𝒱₀ (c : Thread nD τ) none) Set.univ _ _ _ k0_t1_ok _ _
    (inv1 c fx) (trip1_sound c fx)) $$ [Hx Ha]
  · unfold inv1
    iexists ga
    isplitr
    · ipureintro; intro i hi; exact absurd hi (by omega)
    isplitl [Hx]; · iexact Hx
    iexact Ha
  iintro %u1 Hinv
  unfold inv1
  icases Hinv with ⟨%ga1, %hga, Hx, Ha⟩
  have hga1 : ga1 = xaug fx := funext fun i => hga i (by
    show (i 0).val < 2048 * k0_t1_loop.trips
    rw [trips1]; have h : (i 0).val < 16384 := (i 0).isLt; omega)
  subst hga1
  -- the Lloyd steps
  iapply (Scf.wp_for_bind frame (wpE (defs₀ (F := F)) 𝒱₀ (c : Thread nD τ) none) Set.univ _ _ _ k0_t2_ok _ _
    (inv2 c fx) (trip2_sound c fx)) $$ [Hx Ha Hc Hs Hn]
  · unfold inv2
    iexists gs, gn, _
    isplitr
    swap
    · isplitl [Hx]; · iexact Hx
      isplitl [Ha]; · iexact Ha
      isplitl [Hc]; · iexact Hc
      isplitl [Hs]; · iexact Hs
      iexact Hn
    ipureintro
    exact stC gc _
  iintro %u2 Hinv
  unfold inv2
  icases Hinv with ⟨%gs2, %gn2, %gc2, %hgc, Hx, Ha, Hc, Hs, Hn⟩
  iapply (wp_load 𝒱₀ (c : Thread nD τ) none Set.univ (m := Memref.whole cc0_scratch0) (Finset.subset_univ _)) $$ Hc; iintro Hc
  -- the assignment
  iapply (Scf.wp_for_bind frame (wpE (defs₀ (F := F)) 𝒱₀ (c : Thread nD τ) none) Set.univ _ _ _ k0_t4_ok _ _
    (inv4 c fx _) (trip4_sound c fx _)) $$ [Hx Ho]
  · unfold inv4
    iexists g
    isplitr
    · ipureintro; intro i hi; exact absurd hi (by omega)
    isplitl [Hx]; · iexact Hx
    iexact Ho
  iintro %u4 Hinv
  unfold inv4
  icases Hinv with ⟨%go, %hgo, Hx, Ho⟩
  have hgo1 : go = out fx := funext fun i => (hgo i (by
    show (i 0).val < 2048 * k0_t4_loop.trips
    rw [trips4]; have h : (i 0).val < 16384 := (i 0).isLt; omega)).trans (by
      unfold out
      exact congrArg (fun z => asg fx z i) ((ldC gc2).trans hgc))
  subst hgo1
  rw [wp_ret]; imodintro
  iapply Hk
  isplitl [Hx]; · iexact Hx
  isplitl [Ho]; · iexact Ho
  isplitl [Hc]; · iexists _; iexact Hc
  isplitl [Hs]; · iexists _; iexact Hs
  isplitl [Hn]; · iexists _; iexact Hn
  iexists _; iexact Ha

end Cert.Proof.PI

end
-- ==== Proof.PI.Run.lean ====
/-
  The run of `KernelIdeal`, at any float values: every execution of @main ends with the input array as it was, the result
  array at the assignment, and every semaphore counter at zero.
-/
module

public import proofs.«01_k».proof.Proof.PI.Body
public import proofs.«01_k».proof.Proof.Gen.KernelIdeal.Frame
public import Idealize.ShloMosaic.Lib.Pipeline.KitQuiescent

@[expose] public section

noncomputable section

namespace Cert.Proof.PI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR' nD τ) ℕ

/-- The embedding of the ghost algebra into the machine's. -/
def EP : Emb (UR' nD τ) (MT nD τ sig Unit (Elt F) ℕ (UR' nD τ) ℕ) :=
  (Emb.refl _).trans (uEmb (nD := nD) (sig := sig) (Ix := Unit) (Val := Elt F) (Name := ℕ) (U := UR' nD τ) (Lvl := ℕ)).toEmb

instance EP_landsIn : (EP : Emb (UR' nD τ) 𝕄).LandsIn (upEmb : UEmb _ 𝕄) := by unfold EP; infer_instance

variable (m : (ℓ : Loc nD τ sig) → Buf (Elt F) ℓ) (ρ : Dev nD → PrngReg)

/-- The points as the pipeline fetches them into the staging buffer. -/
def points (c : Dev nD) : Vec F S16384x256 .f32 :=
  (win0_0.blk t0_0).view.read (Elt F) (m ((c : Thread nD τ).loc main_arg0))

/-- The proof data of the pipeline on core `c`: the arrays as launched; after the body the points as fetched and the
    result's buffer at the assignment; the scratch before and after; nothing owed; full shares. -/
def dats (_ : Fin 1) (c : Dev nD) : Dat τ (Elt F) Unit ℕ (UR' nD τ) ℕ cfg0 c where
  A w := m ((cfg0.win w).arr.view.loc (c : Thread nD τ))
  after w _ := match w with
    | ⟨0, _⟩ => points m c
    | ⟨1, _⟩ => out (points m c)
  Φ _ := scratch c
  q _ := fullShare
  owed _ := 0

/-- The body meets what the pipeline asks of it at the one point. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  rw [show (dats m 0 c).Φ t0_0.castSucc = scratch c from rfl, show (dats m 0 c).Φ t0_0.succ = scratch c from rfl]
  iintro ⟨Hs, Ho, ⟨%d0, %f0, %hf0, H0⟩, ⟨%d1, %f1, %hf1, H1⟩⟩
  have h0 : f0 = points m c := by rw [hf0]; unfold Dat.before; rw [if_pos (fetch0_0 t0_0)]; rfl
  subst h0
  iapply (body_sound c (points m c) f1 _)
  isplitl [Hs H0 H1]
  · isplitl [H0]; · iexact H0
    isplitl [H1]; · iexact H1
    iexact Hs
  iintro ⟨H0, H1, Hs⟩
  isplitl [Hs]; · iexact Hs
  isplitl [Ho]; · iexact Ho
  isplitl [H0]
  · iexists _; isplitr; · (ipureintro; rfl)
    iexact H0
  iexists _; isplitr; · (ipureintro; rfl)
  iexact H1

/-- The launch element: every staging cell's owner at round 0 and a duty token for every transfer of the pipeline. -/
def u₀ : UR' nD τ := initOf (Pipeline.cells cfgs cellOf_inj) (Pipeline.launchToks cfgs cellOf_inj)

/-- Every window is held whole. -/
theorem share_eq (c : Dev nD) (w : Fin cfg0.W) : (dats m 0 c).share w = fullShare := by
  unfold Dat.share; split <;> rfl

/-- Every execution of @main terminates with each window's array at what the pipeline writes back and every counter at
    zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = (dats m 0 c).arrAt w cfg0.N)
      ∧ r.2.sem = fun _ => 0) :=
  Pipeline.θ_run_region_noSem_kit_quiescent cfgs (dats m) () (0 : Fin 1) launch0 EP defs₀ 𝒱₀ m ρ main
    (hbody := fun c => (body_obligation m c).loose) (hshare := share_eq m) (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by rw [unscopedRest0_eq]; iintro -; isplitr <;> iempintro)
    (hin := fun c => by
      rw [scopedRest0_eq]
      show _ ⊢ scratch c
      unfold scratch
      iintro ⟨-, H⟩; iexact H)
    (hout := fun c => by
      rw [scopedRest0_eq]
      show scratch c ⊢ _
      unfold scratch
      iintro H; isplitr; · iempintro
      iexact H)
    (QY := fun _ _ => True)
    (hY := fun c s' => by
      iintro ⟨-, -, HSI⟩; imodintro
      isplitr; · ipureintro; trivial
      iexact HSI)
    (hQ := fun _ h hz => ⟨fun c w => (h c).1 w, hz⟩)

/-- The input array is as it was; -/
theorem final_arg (c : Dev nD) : (dats m 0 c).arrAt (0 : Fin 2) cfg0.N = m ((c : Thread nD τ).loc main_arg0) :=
  (dats m 0 c).arrAt_in (0 : Fin 2) rfl _

/-- The one block of the points is the whole array; -/
theorem emb0 (j : S16384x256.Idx) : (win0_0.blk t0_0).view.emb j = j :=
  funext fun a => Fin.ext (by
    show 0 * _ + 1 * (j a).val = (j a).val
    omega)

/-- so is the result's. -/
theorem emb1 (j : S16384.Idx) : (win0_1.blk t0_0).view.emb j = j :=
  funext fun a => Fin.ext (by
    show 0 * _ + 1 * (j a).val = (j a).val
    omega)

/-- The fetched points are the argument array; -/
theorem points_eq (c : Dev nD) : points m c = m ((c : Thread nD τ).loc main_arg0) :=
  funext fun j => congrArg (m ((c : Thread nD τ).loc main_arg0)) (emb0 j)

/-- a write-back of the whole result array leaves it at what is written. -/
theorem write_result (f g : IVec S16384 32) (i : S16384.Idx) :
    (win0_1.blk t0_0).view.write (Elt F) f g Finset.univ i = g i :=
  (congrArg ((win0_1.blk t0_0).view.write (Elt F) f g Finset.univ) (emb1 i).symm).trans
    (View.write_emb_of_mem _ _ (Finset.mem_univ _))

/-- The result array holds the assignment of the points. -/
theorem final_out (c : Dev nD) : (dats m 0 c).arrAt (1 : Fin 2) cfg0.N = out (m ((c : Thread nD τ).loc main_arg0)) := by
  rw [show cfg0.N = (t0_0 : Fin cfg0.N).val + 1 from rfl, (dats m 0 c).arrAt_succ (1 : Fin 2) t0_0,
    if_pos (flush0_1 t0_0)]
  show (win0_1.blk t0_0).view.write (Elt F) (m ((c : Thread nD τ).loc main_v0)) (out (points m c)) Finset.univ = _
  rw [points_eq]
  funext i
  exact write_result _ _ i

/-- The run, read at the program's arrays. -/
theorem run : θ_run defs (onTc (τ := τ) (main (F := F))) ⟨m, fun _ => 0, ρ⟩
    (fun r => (∀ c : Dev nD, r.2.mem ((c.tc : Thread nD τ).loc main_v0) = out (m ((c : Thread nD τ).loc main_arg0))
        ∧ r.2.mem ((c.tc : Thread nD τ).loc main_arg0) = m ((c.tc : Thread nD τ).loc main_arg0))
      ∧ r.2.sem = fun _ => 0) :=
  (θ_run defs _ _).mono (fun _ h => ⟨fun c => ⟨(h.1 c 1).trans (final_out m c), (h.1 c 0).trans (final_arg m c)⟩, h.2⟩) (run_main m ρ)

end Cert.Proof.PI

end
-- ==== Proof.RI.Ops.lean ====
/-
  The operations of the reference, in the order of the program: before its loop, of the loop's condition, of the loop's
  body, and after the loop.
-/
module

public import proofs.«01_k».proof.Proof.Gen.ReferenceIdeal
public import Idealize.ShloMosaic.Lib.StableHlo.RunLoop
public import Idealize.ShloMosaic.Lib.StableHlo.RunRead
public import proofs.«01_k».proof.Proof.PI.Run

@[expose] public section

noncomputable section

namespace Cert.Proof.RI

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Before the loop: the points reshaped and back, the first 1024 rows, the counter, and the carried values. -/
abbrev preOps : List (HloOp τ sig (Elt F)) :=
  [ StableHlo.reshape main_arg0 main_v0 (rfl : (.f32 : EltTy) = .f32) shapeCasts_S16384x256_S16x1024x256,
    StableHlo.reshape main_v0 main_v1 (rfl : (.f32 : EltTy) = .f32) shapeCasts_S16x1024x256_S16384x256,
    StableHlo.unary main_v1 main_v2 ((extractStridedSlice S1024x256 ![0, 0] · slices_S16384x256_S1024x256_0_0) : (⟨S16384x256, .f32⟩ : BufTy).Contents (Elt F) → (⟨S1024x256, .f32⟩ : BufTy).Contents (Elt F)),
    StableHlo.nullary main_c (constantI S_ 32 0#32),
    StableHlo.unary main_v1 main_v3_0 id,
    StableHlo.unary main_c main_v3_1 id,
    StableHlo.unary main_v2 main_v3_2 id ]

/-- The condition: the counter below ten. -/
abbrev condOps : List (HloOp τ sig (Elt F)) :=
  [ StableHlo.nullary main_while0c_c_4 (constantI S_ 32 10#32),
    StableHlo.binary main_v3_1 main_while0c_c_4 main_while0c_v19 (cmpi .slt : (⟨S_, .i32⟩ : BufTy).Contents (Elt F) → (⟨S_, .i32⟩ : BufTy).Contents (Elt F) → (⟨S_, .i1⟩ : BufTy).Contents (Elt F)) ]

/-- One step: the squared distances, the nearest centroids, the sums and counts, the new centroids, the counter. -/
abbrev bodyOps : List (HloOp τ sig (Elt F)) :=
  [ StableHlo.binary main_v3_0 main_v3_0 main_while0b_v19 (mulf : (⟨S16384x256, .f32⟩ : BufTy).Contents (Elt F) → (⟨S16384x256, .f32⟩ : BufTy).Contents (Elt F) → (⟨S16384x256, .f32⟩ : BufTy).Contents (Elt F)),
    StableHlo.nullary main_while0b_cst_4 (constant S_ .f32 0x00000000#32),
    StableHlo.binary main_while0b_v19 main_while0b_cst_4 main_while0b_v20 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    StableHlo.unary main_while0b_v20 main_while0b_v21 (broadcastInDim S16384x1 ![0] bcast_S16384_S16384x1_0 : (⟨S16384, .f32⟩ : BufTy).Contents (Elt F) → (⟨S16384x1, .f32⟩ : BufTy).Contents (Elt F)),
    StableHlo.binary main_v3_2 main_v3_2 main_while0b_v22 (mulf : (⟨S1024x256, .f32⟩ : BufTy).Contents (Elt F) → (⟨S1024x256, .f32⟩ : BufTy).Contents (Elt F) → (⟨S1024x256, .f32⟩ : BufTy).Contents (Elt F)),
    StableHlo.nullary main_while0b_cst_5 (constant S_ .f32 0x00000000#32),
    StableHlo.binary main_while0b_v22 main_while0b_cst_5 main_while0b_v23 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_while0b_v23 main_while0b_v24 (broadcastInDim S1x1024 ![1] bcast_S1024_S1x1024_1 : (⟨S1024, .f32⟩ : BufTy).Contents (Elt F) → (⟨S1x1024, .f32⟩ : BufTy).Contents (Elt F)),
    StableHlo.unary main_while0b_v21 main_while0b_v25 (broadcastInDim S16384x1024 ![0, 1] bcast_S16384x1_S16384x1024_0_1 : (⟨S16384x1, .f32⟩ : BufTy).Contents (Elt F) → (⟨S16384x1024, .f32⟩ : BufTy).Contents (Elt F)),
    StableHlo.unary main_while0b_v24 main_while0b_v26 (broadcastInDim S16384x1024 ![0, 1] bcast_S1x1024_S16384x1024_0_1 : (⟨S1x1024, .f32⟩ : BufTy).Contents (Elt F) → (⟨S16384x1024, .f32⟩ : BufTy).Contents (Elt F)),
    StableHlo.binary main_while0b_v25 main_while0b_v26 main_while0b_v27 (addf : (⟨S16384x1024, .f32⟩ : BufTy).Contents (Elt F) → (⟨S16384x1024, .f32⟩ : BufTy).Contents (Elt F) → (⟨S16384x1024, .f32⟩ : BufTy).Contents (Elt F)),
    StableHlo.unary main_v3_2 main_while0b_v28 ((transpose S256x1024 [1, 0] · transposes_S1024x256_S256x1024_1_0) : (⟨S1024x256, .f32⟩ : BufTy).Contents (Elt F) → (⟨S256x1024, .f32⟩ : BufTy).Contents (Elt F)),
    StableHlo.binary main_v3_0 main_while0b_v28 main_while0b_v29 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    StableHlo.nullary main_while0b_cst_6 (constant S_ .f32 0x40000000#32),
    StableHlo.unary main_while0b_cst_6 main_while0b_v30 (broadcastInDim S16384x1024 ![] bcast_S_S16384x1024 : (⟨S_, .f32⟩ : BufTy).Contents (Elt F) → (⟨S16384x1024, .f32⟩ : BufTy).Contents (Elt F)),
    StableHlo.binary main_while0b_v30 main_while0b_v29 main_while0b_v31 (mulf : (⟨S16384x1024, .f32⟩ : BufTy).Contents (Elt F) → (⟨S16384x1024, .f32⟩ : BufTy).Contents (Elt F) → (⟨S16384x1024, .f32⟩ : BufTy).Contents (Elt F)),
    StableHlo.binary main_while0b_v27 main_while0b_v31 main_while0b_v32 (subf : (⟨S16384x1024, .f32⟩ : BufTy).Contents (Elt F) → (⟨S16384x1024, .f32⟩ : BufTy).Contents (Elt F) → (⟨S16384x1024, .f32⟩ : BufTy).Contents (Elt F)),
    StableHlo.nullary main_while0b_call0_v0 (iotaInDim S16384x1024 32 1),
    StableHlo.nullary main_while0b_call0_cst (constant S_ .f32 0x7F800000#32),
    StableHlo.nullary main_while0b_call0_c (constantI S_ 32 0#32),
    StableHlo.quaternary main_while0b_v32 main_while0b_call0_v0 main_while0b_call0_cst main_while0b_call0_c main_while0b_call0_v1_0 (fun x y u v j => (Host.argReduce reducer_argmin_f32_i32 x y u v reducesTo_S16384x1024_S16384_d1 h_S_ j).1),
    StableHlo.quaternary main_while0b_v32 main_while0b_call0_v0 main_while0b_call0_cst main_while0b_call0_c main_while0b_v33 (fun x y u v j => (Host.argReduce reducer_argmin_f32_i32 x y u v reducesTo_S16384x1024_S16384_d1 h_S_ j).2),
    StableHlo.nullary main_while0b_cst_7 (constant S_ .f32 0x00000000#32),
    StableHlo.unary main_while0b_cst_7 main_while0b_v34 (broadcastInDim S1024x256 ![] bcast_S_S1024x256 : (⟨S_, .f32⟩ : BufTy).Contents (Elt F) → (⟨S1024x256, .f32⟩ : BufTy).Contents (Elt F)),
    StableHlo.unary main_while0b_v33 main_while0b_v35 (broadcastInDim S16384x1 ![0] bcast_S16384_S16384x1_0 : (⟨S16384, .i32⟩ : BufTy).Contents (Elt F) → (⟨S16384x1, .i32⟩ : BufTy).Contents (Elt F)),
    StableHlo.ternary main_while0b_v34 main_while0b_v35 main_v3_0 main_while0b_v36 ((fun x i u => Host.scatterAdd scatter_S1024x256_S16384x1_S16384x256_1_0_0_1 x i u) : (⟨S1024x256, .f32⟩ : BufTy).Contents (Elt F) → (⟨S16384x1, .i32⟩ : BufTy).Contents (Elt F) → (⟨S16384x256, .f32⟩ : BufTy).Contents (Elt F) → (⟨S1024x256, .f32⟩ : BufTy).Contents (Elt F)),
    StableHlo.nullary main_while0b_cst_8 (constant S_ .f32 0x3F800000#32),
    StableHlo.unary main_while0b_cst_8 main_while0b_v37 (broadcastInDim S16384 ![] bcast_S_S16384 : (⟨S_, .f32⟩ : BufTy).Contents (Elt F) → (⟨S16384, .f32⟩ : BufTy).Contents (Elt F)),
    StableHlo.nullary main_while0b_cst_9 (constant S_ .f32 0x00000000#32),
    StableHlo.unary main_while0b_cst_9 main_while0b_v38 (broadcastInDim S1024 ![] bcast_S_S1024 : (⟨S_, .f32⟩ : BufTy).Contents (Elt F) → (⟨S1024, .f32⟩ : BufTy).Contents (Elt F)),
    StableHlo.unary main_while0b_v33 main_while0b_v39 (broadcastInDim S16384x1 ![0] bcast_S16384_S16384x1_0 : (⟨S16384, .i32⟩ : BufTy).Contents (Elt F) → (⟨S16384x1, .i32⟩ : BufTy).Contents (Elt F)),
    StableHlo.ternary main_while0b_v38 main_while0b_v39 main_while0b_v37 main_while0b_v40 ((fun x i u => Host.scatterAdd scatter_S1024_S16384x1_S16384_n_0_0_1 x i u) : (⟨S1024, .f32⟩ : BufTy).Contents (Elt F) → (⟨S16384x1, .i32⟩ : BufTy).Contents (Elt F) → (⟨S16384, .f32⟩ : BufTy).Contents (Elt F) → (⟨S1024, .f32⟩ : BufTy).Contents (Elt F)),
    StableHlo.nullary main_while0b_cst_10 (constant S_ .f32 0x3F800000#32),
    StableHlo.unary main_while0b_cst_10 main_while0b_v41 (broadcastInDim S1024 ![] bcast_S_S1024 : (⟨S_, .f32⟩ : BufTy).Contents (Elt F) → (⟨S1024, .f32⟩ : BufTy).Contents (Elt F)),
    StableHlo.binary main_while0b_v40 main_while0b_v41 main_while0b_v42 (maximumf : (⟨S1024, .f32⟩ : BufTy).Contents (Elt F) → (⟨S1024, .f32⟩ : BufTy).Contents (Elt F) → (⟨S1024, .f32⟩ : BufTy).Contents (Elt F)),
    StableHlo.unary main_while0b_v42 main_while0b_v43 (broadcastInDim S1024x1 ![0] bcast_S1024_S1024x1_0 : (⟨S1024, .f32⟩ : BufTy).Contents (Elt F) → (⟨S1024x1, .f32⟩ : BufTy).Contents (Elt F)),
    StableHlo.unary main_while0b_v43 main_while0b_v44 (broadcastInDim S1024x256 ![0, 1] bcast_S1024x1_S1024x256_0_1 : (⟨S1024x1, .f32⟩ : BufTy).Contents (Elt F) → (⟨S1024x256, .f32⟩ : BufTy).Contents (Elt F)),
    StableHlo.binary main_while0b_v36 main_while0b_v44 main_while0b_v45 (Host.divf : (⟨S1024x256, .f32⟩ : BufTy).Contents (Elt F) → (⟨S1024x256, .f32⟩ : BufTy).Contents (Elt F) → (⟨S1024x256, .f32⟩ : BufTy).Contents (Elt F)),
    StableHlo.unary main_while0b_v40 main_while0b_v46 (broadcastInDim S1024x1 ![0] bcast_S1024_S1024x1_0 : (⟨S1024, .f32⟩ : BufTy).Contents (Elt F) → (⟨S1024x1, .f32⟩ : BufTy).Contents (Elt F)),
    StableHlo.nullary main_while0b_cst_11 (constant S_ .f32 0x00000000#32),
    StableHlo.unary main_while0b_cst_11 main_while0b_v47 (broadcastInDim S1024x1 ![] bcast_S_S1024x1 : (⟨S_, .f32⟩ : BufTy).Contents (Elt F) → (⟨S1024x1, .f32⟩ : BufTy).Contents (Elt F)),
    StableHlo.binary main_while0b_v46 main_while0b_v47 main_while0b_v48 (cmpf .ogt : (⟨S1024x1, .f32⟩ : BufTy).Contents (Elt F) → (⟨S1024x1, .f32⟩ : BufTy).Contents (Elt F) → (⟨S1024x1, .i1⟩ : BufTy).Contents (Elt F)),
    StableHlo.unary main_while0b_v48 main_while0b_call1_v0 (broadcastInDim S1024x256 ![0, 1] bcast_S1024x1_S1024x256_0_1),
    StableHlo.ternary main_while0b_call1_v0 main_while0b_v45 main_v3_2 main_while0b_v49 select,
    StableHlo.nullary main_while0b_c_12 (constantI S_ 32 1#32),
    StableHlo.binary main_v3_1 main_while0b_c_12 main_while0b_v50 (addi : (⟨S_, .i32⟩ : BufTy).Contents (Elt F) → (⟨S_, .i32⟩ : BufTy).Contents (Elt F) → (⟨S_, .i32⟩ : BufTy).Contents (Elt F)),
    StableHlo.unary main_while0b_v50 main_v3_1 id,
    StableHlo.unary main_while0b_v49 main_v3_2 id ]

/-- After the loop: the squared distances to the last centroids and the nearest of them. -/
abbrev postOps : List (HloOp τ sig (Elt F)) :=
  [ StableHlo.binary main_v1 main_v1 main_v4 (mulf : (⟨S16384x256, .f32⟩ : BufTy).Contents (Elt F) → (⟨S16384x256, .f32⟩ : BufTy).Contents (Elt F) → (⟨S16384x256, .f32⟩ : BufTy).Contents (Elt F)),
    StableHlo.nullary main_cst (constant S_ .f32 0x00000000#32),
    StableHlo.binary main_v4 main_cst main_v5 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    StableHlo.unary main_v5 main_v6 (broadcastInDim S16384x1 ![0] bcast_S16384_S16384x1_0 : (⟨S16384, .f32⟩ : BufTy).Contents (Elt F) → (⟨S16384x1, .f32⟩ : BufTy).Contents (Elt F)),
    StableHlo.binary main_v3_2 main_v3_2 main_v7 (mulf : (⟨S1024x256, .f32⟩ : BufTy).Contents (Elt F) → (⟨S1024x256, .f32⟩ : BufTy).Contents (Elt F) → (⟨S1024x256, .f32⟩ : BufTy).Contents (Elt F)),
    StableHlo.nullary main_cst_0 (constant S_ .f32 0x00000000#32),
    StableHlo.binary main_v7 main_cst_0 main_v8 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_v8 main_v9 (broadcastInDim S1x1024 ![1] bcast_S1024_S1x1024_1 : (⟨S1024, .f32⟩ : BufTy).Contents (Elt F) → (⟨S1x1024, .f32⟩ : BufTy).Contents (Elt F)),
    StableHlo.unary main_v6 main_v10 (broadcastInDim S16384x1024 ![0, 1] bcast_S16384x1_S16384x1024_0_1 : (⟨S16384x1, .f32⟩ : BufTy).Contents (Elt F) → (⟨S16384x1024, .f32⟩ : BufTy).Contents (Elt F)),
    StableHlo.unary main_v9 main_v11 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v10 main_v11 main_v12 (addf : (⟨S16384x1024, .f32⟩ : BufTy).Contents (Elt F) → (⟨S16384x1024, .f32⟩ : BufTy).Contents (Elt F) → (⟨S16384x1024, .f32⟩ : BufTy).Contents (Elt F)),
    StableHlo.unary main_v3_2 main_v13 ((transpose S256x1024 [1, 0] · transposes_S1024x256_S256x1024_1_0) : (⟨S1024x256, .f32⟩ : BufTy).Contents (Elt F) → (⟨S256x1024, .f32⟩ : BufTy).Contents (Elt F)),
    StableHlo.binary main_v1 main_v13 main_v14 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    StableHlo.nullary main_cst_1 (constant S_ .f32 0x40000000#32),
    StableHlo.unary main_cst_1 main_v15 (broadcastInDim S16384x1024 ![] bcast_S_S16384x1024 : (⟨S_, .f32⟩ : BufTy).Contents (Elt F) → (⟨S16384x1024, .f32⟩ : BufTy).Contents (Elt F)),
    StableHlo.binary main_v15 main_v14 main_v16 (mulf : (⟨S16384x1024, .f32⟩ : BufTy).Contents (Elt F) → (⟨S16384x1024, .f32⟩ : BufTy).Contents (Elt F) → (⟨S16384x1024, .f32⟩ : BufTy).Contents (Elt F)),
    StableHlo.binary main_v12 main_v16 main_v17 (subf : (⟨S16384x1024, .f32⟩ : BufTy).Contents (Elt F) → (⟨S16384x1024, .f32⟩ : BufTy).Contents (Elt F) → (⟨S16384x1024, .f32⟩ : BufTy).Contents (Elt F)),
    StableHlo.nullary main_call2_v0 (iotaInDim S16384x1024 32 1),
    StableHlo.nullary main_call2_cst (constant S_ .f32 0x7F800000#32),
    StableHlo.nullary main_call2_c (constantI S_ 32 0#32),
    StableHlo.quaternary main_v17 main_call2_v0 main_call2_cst main_call2_c main_call2_v1_0 (fun x y u v j => (Host.argReduce reducer_argmin_f32_i32 x y u v reducesTo_S16384x1024_S16384_d1 h_S_ j).1),
    StableHlo.quaternary main_v17 main_call2_v0 main_call2_cst main_call2_c main_v18 (fun x y u v j => (Host.argReduce reducer_argmin_f32_i32 x y u v reducesTo_S16384x1024_S16384_d1 h_S_ j).2) ]

/-- @main is the operations before the loop, the loop, and those after it. -/
theorem main_chain (c : Dev nD) : main (F := F) c
    = Pipeline.chain ([StableHlo.seq preOps] ++ HostLoop.enter 0 :: [StableHlo.seq postOps]) := by
  simp only [List.cons_append, List.nil_append]
  chain_rfl

/-- The loop's body is its operations. -/
theorem body_chain : main_while0_body (F := F) = Pipeline.chain [StableHlo.seq bodyOps] := by
  chain_rfl

/-- The operations before the loop touch their own buffers only; -/
theorem pre_plain : StableHlo.Plain [preOps (F := F)] := .cons (by simp only [List.Forall, StableHlo.nullary_bufs_sub, StableHlo.unary_bufs_sub, StableHlo.binary_bufs_sub, StableHlo.ternary_bufs_sub, StableHlo.quaternary_bufs_sub, StableHlo.reshape_bufs_sub, _root_.and_true]) .nil
/-- so do those of its body, -/
theorem body_plain : StableHlo.Plain [bodyOps (F := F)] := .cons (by simp only [List.Forall, StableHlo.nullary_bufs_sub, StableHlo.unary_bufs_sub, StableHlo.binary_bufs_sub, StableHlo.ternary_bufs_sub, StableHlo.quaternary_bufs_sub, StableHlo.reshape_bufs_sub, _root_.and_true]) .nil
/-- and those after it. -/
theorem post_plain : StableHlo.Plain [postOps (F := F)] := .cons (by simp only [List.Forall, StableHlo.nullary_bufs_sub, StableHlo.unary_bufs_sub, StableHlo.binary_bufs_sub, StableHlo.ternary_bufs_sub, StableHlo.quaternary_bufs_sub, StableHlo.reshape_bufs_sub, _root_.and_true]) .nil

end Cert.Proof.RI

end
-- ==== Proof.RI.Contents.lean ====
/-
  What the reference computes, array by array: the squared distances of the points to the centroids, the nearest
  centroid of each point, one step of the centroids, ten steps from the first 1024 points, and the last assignment.
-/
module

public import proofs.«01_k».proof.Proof.RI.Ops

@[expose] public section

noncomputable section

namespace Cert.Proof.RI

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The squared distances: |x|² + |c|² − 2 x·c, for every point and centroid. -/
def dist (x : Vec F S16384x256 .f32) (c : Vec F S1024x256 .f32) : Vec F S16384x1024 .f32 :=
  subf
    (addf
      (broadcastInDim S16384x1024 ![0, 1] bcast_S16384x1_S16384x1024_0_1
        (broadcastInDim S16384x1 ![0] bcast_S16384_S16384x1_0
          (Host.reduceAdd (mulf x x) (constant S_ .f32 0x00000000#32) reducesTo_S16384x256_S16384_d1 h_S_)))
      (broadcastInDim S16384x1024 ![0, 1] bcast_S1x1024_S16384x1024_0_1
        (broadcastInDim S1x1024 ![1] bcast_S1024_S1x1024_1
          (Host.reduceAdd (mulf c c) (constant S_ .f32 0x00000000#32) reducesTo_S1024x256_S1024_d1 h_S_))))
    (mulf (broadcastInDim S16384x1024 ![] bcast_S_S16384x1024 (constant S_ .f32 0x40000000#32))
      (Host.dotGeneral dot_S16384x256_S256x1024_S16384x1024_1_0_0_1_n_n none x
        (transpose S256x1024 [1, 0] c transposes_S1024x256_S256x1024_1_0)))

/-- The nearest centroid of each point: the first of the least distances along each row. -/
def asg (x : Vec F S16384x256 .f32) (c : Vec F S1024x256 .f32) : IVec S16384 32 := fun j =>
  (Host.argReduce reducer_argmin_f32_i32 (dist x c) (iotaInDim S16384x1024 32 1) (constant S_ .f32 0x7F800000#32)
    (constantI S_ 32 0#32) reducesTo_S16384x1024_S16384_d1 h_S_ j).2

/-- The sum of the points assigned to each centroid. -/
def sums (x : Vec F S16384x256 .f32) (a : IVec S16384 32) : Vec F S1024x256 .f32 :=
  Host.scatterAdd scatter_S1024x256_S16384x1_S16384x256_1_0_0_1
    (broadcastInDim S1024x256 ![] bcast_S_S1024x256 (constant S_ .f32 0x00000000#32))
    (broadcastInDim S16384x1 ![0] bcast_S16384_S16384x1_0 a) x

/-- The number of points assigned to each centroid. -/
def counts (a : IVec S16384 32) : Vec F S1024 .f32 :=
  Host.scatterAdd scatter_S1024_S16384x1_S16384_n_0_0_1
    (broadcastInDim S1024 ![] bcast_S_S1024 (constant S_ .f32 0x00000000#32))
    (broadcastInDim S16384x1 ![0] bcast_S16384_S16384x1_0 a)
    (broadcastInDim S16384 ![] bcast_S_S16384 (constant S_ .f32 0x3F800000#32))

/-- The means of the assigned points, an empty cluster keeping its centroid. -/
def means (s : Vec F S1024x256 .f32) (n : Vec F S1024 .f32) (c : Vec F S1024x256 .f32) :
    Vec F S1024x256 .f32 :=
  select
    (broadcastInDim S1024x256 ![0, 1] bcast_S1024x1_S1024x256_0_1
      (cmpf .ogt (broadcastInDim S1024x1 ![0] bcast_S1024_S1024x1_0 n)
        (broadcastInDim S1024x1 ![] bcast_S_S1024x1 (constant S_ .f32 0x00000000#32))))
    (Host.divf s
      (broadcastInDim S1024x256 ![0, 1] bcast_S1024x1_S1024x256_0_1
        (broadcastInDim S1024x1 ![0] bcast_S1024_S1024x1_0
          (maximumf n (broadcastInDim S1024 ![] bcast_S_S1024 (constant S_ .f32 0x3F800000#32))))))
    c

/-- One step of the centroids. -/
def step (x : Vec F S16384x256 .f32) (c : Vec F S1024x256 .f32) : Vec F S1024x256 .f32 :=
  means (sums x (asg x c)) (counts (asg x c)) c

/-- The first centroids: the first 1024 points. -/
def cent0 (x : Vec F S16384x256 .f32) : Vec F S1024x256 .f32 :=
  extractStridedSlice S1024x256 ![0, 0] x slices_S16384x256_S1024x256_0_0

/-- The centroids after n steps. -/
def centTo (x : Vec F S16384x256 .f32) : ℕ → Vec F S1024x256 .f32
  | 0 => cent0 x
  | n + 1 => step x (centTo x n)

/-- The points as the program holds them: reshaped to blocks and back. -/
def pts (x : Vec F S16384x256 .f32) : Vec F S16384x256 .f32 :=
  shapeCast S16384x256 (shapeCast S16x1024x256 x shapeCasts_S16384x256_S16x1024x256) shapeCasts_S16x1024x256_S16384x256

/-- The reference's result: the assignment to the centroids after ten steps. -/
def out (x : Vec F S16384x256 .f32) : IVec S16384 32 := asg (pts x) (centTo (pts x) 10)

end Cert.Proof.RI

end
-- ==== Proof.RI.Reads.lean ====
/-
  What the reference's buffers hold after each stretch of its operations.
-/
module

public import proofs.«01_k».proof.Proof.RI.Contents

@[expose] public section

noncomputable section

namespace Cert.Proof.RI

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (W : Valuation τ sig (Elt F))

/-- The loop's body takes the centroids one step further; -/
theorem body_cent : StableHlo.after bodyOps W main_v3_2 = step (W main_v3_0) (W main_v3_2) := by
  after_reads_simp
  rfl

/-- it leaves the points, -/
theorem body_pts : StableHlo.after bodyOps W main_v3_0 = W main_v3_0 := by after_reads_simp
/-- the argument, -/
theorem body_arg : StableHlo.after bodyOps W main_arg0 = W main_arg0 := by after_reads_simp
/-- and the reshaped points as they were, -/
theorem body_v1 : StableHlo.after bodyOps W main_v1 = W main_v1 := by after_reads_simp
/-- and counts one up. -/
theorem body_ctr : StableHlo.after bodyOps W main_v3_1 = addi (W main_v3_1) (constantI S_ 32 1#32) := by
  after_reads_simp
  rfl

/-- The loop's test leaves the centroids, -/
theorem cond_cent : StableHlo.after condOps W main_v3_2 = W main_v3_2 := by after_reads_simp
/-- the points, -/
theorem cond_pts : StableHlo.after condOps W main_v3_0 = W main_v3_0 := by after_reads_simp
/-- the argument, -/
theorem cond_arg : StableHlo.after condOps W main_arg0 = W main_arg0 := by after_reads_simp
/-- the reshaped points, -/
theorem cond_v1 : StableHlo.after condOps W main_v1 = W main_v1 := by after_reads_simp
/-- and the counter as they were. -/
theorem cond_ctr : StableHlo.after condOps W main_v3_1 = W main_v3_1 := by after_reads_simp

/-- Before the loop the points are reshaped, -/
theorem pre_v1 : StableHlo.after preOps W main_v1 = pts (W main_arg0) := by
  after_reads_simp
  rfl
/-- handed to the loop, -/
theorem pre_pts : StableHlo.after preOps W main_v3_0 = pts (W main_arg0) := by
  after_reads_simp
  rfl
/-- their first rows are the first centroids, -/
theorem pre_cent : StableHlo.after preOps W main_v3_2 = cent0 (pts (W main_arg0)) := by
  after_reads_simp
  rfl
/-- the counter is zero, -/
theorem pre_ctr : StableHlo.after preOps W main_v3_1 = fun _ => 0#32 := by
  after_reads_simp
  rfl
/-- and the argument is as it was. -/
theorem pre_arg : StableHlo.after preOps W main_arg0 = W main_arg0 := by after_reads_simp

/-- After the loop the result is the assignment to its centroids, -/
theorem post_out : StableHlo.after postOps W main_v18 = asg (W main_v1) (W main_v3_2) := by
  after_reads_simp
  rfl
/-- and the argument is as it was. -/
theorem post_arg : StableHlo.after postOps W main_arg0 = W main_arg0 := by after_reads_simp

end Cert.Proof.RI

end
-- ==== Proof.RI.Run.lean ====
/-
  The reference's run: its loop makes ten trips, and it ends with its result at `out` of its argument, its argument as
  launched and every counter at zero.
-/
module

public import proofs.«01_k».proof.Proof.RI.Reads

@[expose] public section

noncomputable section

namespace Cert.Proof.RI

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs unscopedBufs_held sub_ucRefs)
open Idealize.ShloMosaic.StableHlo (held launchContents)

variable {F : FTy → Type} [FloatOps F]

local notation "𝕄" => MT nD τ sig Unit (Elt F) ℕ (Option PUnit) ℕ

/-- The launch has no pipeline: nothing to admit, no ticket, no level. -/
abbrev adm : (p : Fin 0) → (pcfgs (F := F) p).Adm := fun p => p.elim0
/-- The tickets of no kernel. -/
abbrev tk : Fin 0 → Ticket (Ix := Unit) (Name := ℕ) (U := Option PUnit) (Lvl := ℕ) (nD := nD) (τ := τ) (pcfgs (F := F)) adm :=
  fun j => j.elim0
/-- No semaphore carries a debt; -/
abbrev L : GSem nD τ sig → Finset Unit := fun _ => ∅
/-- and none a level. -/
abbrev lv : GSem nD τ sig → Unit → ℕ := fun _ _ => 0

/-- Distinct cells have distinct names. -/
theorem cellOf_injective :
    Function.Injective (Pipeline.cellOf (nD := nD) (τ := τ) (Pipeline.pin (pcfgs (F := F)) adm)) :=
  fun k => k.1.elim0

/-- What rides beside the buffers: that the core owes nothing. -/
abbrev owing (c : Dev nD) : sProp 𝕄 := iprop(∃ W, owes (c : Thread nD τ) (0 : CellTallies nD τ sig Unit) W)

variable (m : (ℓ : Loc nD τ sig) → Buf (Elt F) ℓ) (ρ : Dev nD → PrngReg)

/-- The buffers at the loop's entry, before its k-th condition, and at the end. -/
abbrev entry (c : Dev nD) : Valuation τ sig (Elt F) := StableHlo.after preOps (launchContents m c)
/-- The buffers before the loop's trip `k`, -/
abbrev trip (k : ℕ) (c : Dev nD) : Valuation τ sig (Elt F) := StableHlo.atTrip condOps [bodyOps] (entry m) k c
/-- and at the end of the program. -/
abbrev final (c : Dev nD) : Valuation τ sig (Elt F) := StableHlo.after postOps (StableHlo.after condOps (trip m 10 c))

/-- The points that core `c` is launched with. -/
abbrev arg (c : Dev nD) : Vec F S16384x256 .f32 := m ((c.tc : Thread nD τ).loc main_arg0)

/-- Before its k-th condition the loop holds the argument, the points, the counter k and the centroids after k steps. -/
theorem trip_holds (c : Dev nD) : ∀ k, trip m k c main_arg0 = arg m c ∧ trip m k c main_v1 = pts (arg m c)
    ∧ trip m k c main_v3_0 = pts (arg m c) ∧ trip m k c main_v3_1 = (fun _ => BitVec.ofNat 32 k)
    ∧ trip m k c main_v3_2 = centTo (pts (arg m c)) k
  | 0 => ⟨pre_arg _, pre_v1 _, pre_pts _, pre_ctr _, pre_cent _⟩
  | k + 1 => by
    obtain ⟨ha, h1, hp, hi, hc⟩ := trip_holds c k
    have e : trip m (k + 1) c = StableHlo.after bodyOps (StableHlo.after condOps (trip m k c)) := rfl
    rw [e]
    refine ⟨?_, ?_, ?_, ?_, ?_⟩
    · rw [body_arg, cond_arg, ha]
    · rw [body_v1, cond_v1, h1]
    · rw [body_pts, cond_pts, hp]
    · rw [body_ctr, cond_ctr, hi]
      funext j
      show BitVec.ofNat 32 k + 1#32 = BitVec.ofNat 32 (k + 1)
      rw [BitVec.ofNat_add]
    · rw [body_cent, cond_pts, cond_cent, hp, hc]; rfl

/-- The loop's test of its counter: below ten. -/
theorem lt_ten (k : ℕ) (hk : k ≤ 10) : IntOp.cmpi .slt (BitVec.ofNat 32 k) 10#32 = 1#1 ↔ k < 10 := by
  have h : ∀ i : Fin 11, IntOp.cmpi .slt (BitVec.ofNat 32 i.val) 10#32 = 1#1 ↔ i.val < 10 := by decide
  exact h ⟨k, by omega⟩

set_option backward.isDefEq.respectTransparency.types false in
/-- The condition before trip k is `k < 10`. -/
theorem cond_spec : StableHlo.LoopCond (pcfgs (F := F)) defs₀ Variants.none loops owing main_while0_cond condOps
    [bodyOps] (entry m) 10 := fun k hk c bd => by
  have hctr : trip m k c main_v3_1 = (fun _ => BitVec.ofNat 32 k) := (trip_holds m c k).2.2.2.1
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip m k c) main_v3_1 HostLoop.idx0)
        (HloOp.result _ (trip m k c) main_while0c_c_4 HostLoop.idx0) = 1#1) (k < 10)
    rw [StableHlo.nullary_result_ne _ _ _ _ (by decide), StableHlo.nullary_result, hctr]
    exact lt_ten k hk
  isplitl [Hb]; · iexact Hb
  isplitl [Hh]; · rw [StableHlo.after_cons, StableHlo.after_cons, StableHlo.after_nil]; iexact Hh
  iexact HR

/-- @main's segments: before the loop, the loop, after it. -/
def segs : List (CSeg (pcfgs (F := F)) adm defs₀ Variants.none L lv loops tk) :=
  StableHlo.segsOf _ _ _ _ _ _ _ _ owing [preOps] pre_plain (launchContents m)
    ++ StableHlo.loopSeg _ _ _ _ _ _ _ _ 0 main_while0_cond main_while0_body rfl condOps [bodyOps] body_plain body_chain 10
        (entry m) owing (cond_spec m)
      :: StableHlo.segsOf _ _ _ _ _ _ _ _ owing [postOps] post_plain (fun c => StableHlo.after condOps (trip m 10 c))

/-- The segments, run in order, are the program, -/
theorem segs_prog : (segs m).map CSeg.prog
    = [StableHlo.seq preOps] ++ HostLoop.enter 0 :: [StableHlo.seq (postOps (F := F))] := by
  unfold segs
  rw [List.map_append, List.map_cons, StableHlo.segsOf_prog, StableHlo.segsOf_prog]
  rfl

/-- and each starts where the one before it ends. -/
theorem segs_chains :
    CSeg.Chains (fun c => iprop(held (c : Thread nD τ) (ucRefs τ sig) (launchContents m c) ∗ owing c)) (segs m)
      (fun c => iprop(iprop(held (c : Thread nD τ) (ucRefs τ sig) (final m c)) ∗ ∃ W, owes (c : Thread nD τ) (0 : CellTallies nD τ sig Unit) W)) := by
  unfold segs
  exact CSeg.Chains.append (StableHlo.segsOf_chains _ _ _ _ _ _ _ _ owing [preOps] pre_plain _)
    ⟨fun _ => .rfl, StableHlo.segsOf_chains _ _ _ _ _ _ _ _ owing [postOps] post_plain _⟩

/-- Every buffer ends at `final`, and every counter at zero. -/
theorem run_final : θ_run defs (onTc (τ := τ) (main (F := F))) ⟨m, fun _ => 0, ρ⟩
    (fun r => (∀ (c : Dev nD), ∀ b ∈ ucRefs τ sig, r.2.mem (c, b) = final m c b) ∧ r.2.sem = fun _ => 0) :=
  Pipeline.θ_run_regions_loop_kit_sems (Ix := Unit) (Name := ℕ) (U := Option PUnit) (Lvl := ℕ) (J := Fin 0) (P := Fin 0) (Val := Elt F)
    pcfgs adm cellOf_injective defs₀ Variants.none L lv loops tk m ρ main (segs m)
    (fun c Q => by
      rw [main_chain c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ owing c))
    (Tₙ := fun c => iprop(held (c : Thread nD τ) (ucRefs τ sig) (final m c)))
    (hch := segs_chains m)
    (hinit := by
      refine Pipeline.initEach L lv fun c => ?_
      rw [show unscopedBufs c (fun b => m ((c : Thread nD τ).loc b)) = held (c : Thread nD τ) (ucRefs τ sig) (launchContents m c) from unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun s h _ => ⟨h, funext fun g => match g with
      | (_, .reg i) => i.elim0
      | (_, .dma i) => i.elim0⟩)

/-- The reference's run: the result is `out` of the argument, the argument is as launched, and every counter ends at zero. -/
theorem run : θ_run defs (onTc (τ := τ) (main (F := F))) ⟨m, fun _ => 0, ρ⟩
    (fun r => (∀ c : Dev nD, r.2.mem ((c.tc : Thread nD τ).loc main_v18) = out (m ((c.tc : Thread nD τ).loc main_arg0))
      ∧ r.2.mem ((c.tc : Thread nD τ).loc main_arg0) = m ((c.tc : Thread nD τ).loc main_arg0)) ∧ r.2.sem = fun _ => 0) :=
  (θ_run defs _ _).mono (fun r h => ⟨fun c => by
    obtain ⟨ha, h1, hp, hi, hc⟩ := trip_holds m c 10
    refine ⟨(h.1 c _ (StableHlo.devRef_mem_ucRefs main_v18 rfl)).trans ?_, (h.1 c _ (StableHlo.devRef_mem_ucRefs main_arg0 rfl)).trans ?_⟩
    · show final m c main_v18 = _
      rw [final, post_out, cond_v1, cond_cent, h1, hc]; rfl
    · show final m c main_arg0 = _
      rw [final, post_arg, cond_arg, ha], h.2⟩) (run_final m ρ)

end Cert.Proof.RI

end
-- ==== Proof.Value.Argmin.lean ====
/-
  The first of the least values of a row: what the kernel's index reduction returns over the extended reals, and what
  the reference's reduction of (value, index) pairs returns. Both are the word of one and the same position.
-/
module

public import proofs.«01_k».proof.Proof.RI.Contents
public import Idealize.ShloMosaic.Lib.Pointwise
public import Idealize.ShloMosaic.Lib.WordCmp

@[expose] public section

noncomputable section

namespace Cert.Proof.Value

open Idealize.ShloMosaic

/-- `k` is the first position of the least value of `f`: every other position has a greater value, or the same value
    and comes no earlier. -/
def IsFirst {K : ℕ} (f : Fin K → EReal) (k : Fin K) : Prop := ∀ k', f k < f k' ∨ (f k = f k' ∧ k.val ≤ k'.val)

/-- There is one such position at most. -/
theorem IsFirst.unique {K : ℕ} {f : Fin K → EReal} {k k' : Fin K} (h : IsFirst f k) (h' : IsFirst f k') : k = k' := by
  apply Fin.ext
  rcases h k' with a | ⟨e, a⟩ <;> rcases h' k with b | ⟨e', b⟩
  · exact absurd b (lt_asymm a)
  · exact absurd a (by rw [e']; exact lt_irrefl _)
  · exact absurd b (by rw [e]; exact lt_irrefl _)
  · omega

/-- There is one. -/
theorem IsFirst.exists {K : ℕ} [NeZero K] (f : Fin K → EReal) : ∃ k, IsFirst f k := by
  obtain ⟨m, -, hm⟩ := Finset.exists_min_image Finset.univ f Finset.univ_nonempty
  obtain ⟨k, hk, hmin⟩ := Finset.exists_min_image (Finset.univ.filter fun k => f k = f m) (fun k => k.val)
    ⟨m, Finset.mem_filter.2 ⟨Finset.mem_univ _, rfl⟩⟩
  refine ⟨k, fun k' => ?_⟩
  have e : f k = f m := (Finset.mem_filter.1 hk).2
  rcases lt_or_eq_of_le (hm k' (Finset.mem_univ _)) with l | l
  · exact Or.inl (by rw [e]; exact l)
  · exact Or.inr ⟨by rw [e, l], hmin k' (Finset.mem_filter.2 ⟨Finset.mem_univ _, l.symm⟩)⟩

/-- The first position of the least value. -/
def first {K : ℕ} [NeZero K] (f : Fin K → EReal) : Fin K := Classical.choose (IsFirst.exists f)

/-- It is the first position of the least value, -/
theorem first_spec {K : ℕ} [NeZero K] (f : Fin K → EReal) : IsFirst f (first f) := Classical.choose_spec (IsFirst.exists f)

/-- and the only one. -/
theorem IsFirst.eq_first {K : ℕ} [NeZero K] {f : Fin K → EReal} {k : Fin K} (h : IsFirst f k) : k = first f := h.unique (first_spec f)

/-- Membership in a filtered set, whatever the procedure that decides the property. -/
theorem mem_filter_of {α : Type} {p : α → Prop} {d : DecidablePred p} (s : Finset α) (a : α) :
    a ∈ @Finset.filter α p d s ↔ a ∈ s ∧ p a := Finset.mem_filter

/-- The kernel's index reduction along a row is the word of the first position of the least value. -/
theorem reduceIndex_eq {R K : ℕ} [NeZero K] (h : (⟨2, ![R, K]⟩ : Shape).Reduces [1] ⟨1, ![R]⟩) (x : FVec Ideal ⟨2, ![R, K]⟩ .f32) (r : Fin R) :
    reduceIndex (F := Ideal) .argMin (1 : Fin (⟨2, ![R, K]⟩ : Shape).rank) ⟨1, ![R]⟩ x h (ix1 r)
      = BitVec.ofNat 32 (first fun k => x (ix2 r k)).val := by
  classical
  have hf : ∀ i : (⟨2, ![R, K]⟩ : Shape).Idx, h.drop i = ix1 r ↔ ∃ k : Fin K, ix2 r k = i := h.fiber_r2_a1 (ix1 r)
  have hs := first_spec fun k => x (ix2 r k)
  generalize first (fun k => x (ix2 r k)) = k at hs
  show BitVec.ofNat 32 _ = _
  refine congrArg (BitVec.ofNat 32) ?_
  have e : ∀ S : Finset ℕ, k.val ∈ S → (∀ n ∈ S, k.val ≤ n) → Option.getD S.min 0 = k.val := by
    intro S hm hl
    have : S.min = (k.val : WithTop ℕ) := le_antisymm (Finset.min_le hm) (Finset.le_min fun n hn => WithTop.coe_le_coe.2 (hl n hn))
    rw [this]; rfl
  refine e _ ?_ ?_
  · refine Finset.mem_image.2 ⟨ix2 r k, (mem_filter_of _ _).2 ⟨(mem_filter_of _ _).2 ⟨Finset.mem_univ _, (hf _).2 ⟨k, rfl⟩⟩, ?_⟩, rfl⟩
    intro i' hi'
    obtain ⟨k', rfl⟩ := (hf _).1 ((mem_filter_of _ _).1 hi').2
    beta_reduce
    rw [if_neg (by decide)]
    rcases hs k' with a | ⟨a, -⟩
    · exact lt_asymm a
    · exact not_lt_of_ge (le_of_eq a)
  · intro n hn
    obtain ⟨i, hi, rfl⟩ := Finset.mem_image.1 hn
    obtain ⟨hi, hb⟩ := (mem_filter_of _ _).1 hi
    obtain ⟨k', rfl⟩ := (hf _).1 ((mem_filter_of _ _).1 hi).2
    have hb := hb (ix2 r k) ((mem_filter_of _ _).2 ⟨Finset.mem_univ _, (hf _).2 ⟨k, rfl⟩⟩)
    beta_reduce at hb
    rw [if_neg (by decide)] at hb
    rcases hs k' with a | ⟨-, a⟩
    · exact absurd a hb
    · exact a

open Cert.ReferenceIdeal Cert.ReferenceIdeal.Gen

/-- The reference's comparison of two (value, index) pairs keeps the one with the lesser value, at equal values the
    one with the lesser index. -/
theorem reducer_eq (u v : EReal) (a b : ℕ) (ha : a < 2 ^ 31) (hb : b < 2 ^ 31) :
    reducer_argmin_f32_i32 (F := Ideal) (u, BitVec.ofNat 32 a) (v, BitVec.ofNat 32 b)
      = if u < v ∨ (u = v ∧ a < b) then (u, BitVec.ofNat 32 a) else (v, BitVec.ofNat 32 b) := by
  unfold reducer_argmin_f32_i32
  simp only [Ideal.cmpf_def, Ideal.cmp, WordCmp.cmpi_slt_ofNat (w := 32) ha hb]
  by_cases h1 : u < v
  · rcases Bool.eq_false_or_eq_true (decide (u = v) && decide (a < b)) with h | h <;>
      simp [h1, h, IntOp.ori, IntOp.andi, Scalar.select]
  · by_cases h2 : u = v
    · subst h2
      by_cases h3 : a < b <;> simp [h3, IntOp.ori, IntOp.andi, Scalar.select]
    · simp [h1, h2, IntOp.ori, IntOp.andi, Scalar.select]

/-- The reference's fold over pairs (value, position), from (⊤, 0): the pair it ends with is one of the pairs or the
    one it began with, and it comes before all of them. -/
theorem fold_first {K : ℕ} (hK : K ≤ 2 ^ 31) (f : Fin K → EReal) (L : List (Fin K)) : ∀ (v : EReal) (n : ℕ), n < 2 ^ 31 →
    ∃ (v' : EReal) (n' : ℕ), n' < 2 ^ 31 ∧
      (L.map fun k => (f k, BitVec.ofNat 32 k.val)).foldl (reducer_argmin_f32_i32 (F := Ideal)) (v, BitVec.ofNat 32 n) = (v', BitVec.ofNat 32 n')
      ∧ ((v' = v ∧ n' = n) ∨ ∃ k ∈ L, v' = f k ∧ n' = k.val)
      ∧ (v' < v ∨ (v' = v ∧ n' ≤ n)) ∧ ∀ k ∈ L, v' < f k ∨ (v' = f k ∧ n' ≤ k.val) := by
  induction L with
  | nil => exact fun v n hn => ⟨v, n, hn, rfl, Or.inl ⟨rfl, rfl⟩, Or.inr ⟨rfl, le_refl _⟩, fun k hk => absurd hk (List.not_mem_nil)⟩
  | cons k L ih =>
    intro v n hn
    have hk : k.val < 2 ^ 31 := lt_of_lt_of_le k.isLt hK
    rw [List.map_cons, List.foldl_cons, reducer_eq _ _ _ _ hn hk]
    split
    · next h =>
      obtain ⟨v', n', a, b, c, d, e⟩ := ih v n hn
      refine ⟨v', n', a, b, c.imp_right fun ⟨k, hk, h⟩ => ⟨k, List.mem_cons_of_mem _ hk, h⟩, d, fun k' hk' => ?_⟩
      rcases List.mem_cons.1 hk' with rfl | hk'
      · rcases d with d | ⟨rfl, d⟩
        · rcases h with h | ⟨rfl, h⟩
          · exact Or.inl (d.trans h)
          · exact Or.inl d
        · rcases h with h | ⟨h', h⟩
          · exact Or.inl h
          · exact Or.inr ⟨h', by omega⟩
      · exact e k' hk'
    · next h =>
      obtain ⟨v', n', a, b, c, d, e⟩ := ih (f k) k.val hk
      have h' : f k < v ∨ (f k = v ∧ k.val ≤ n) := by
        rcases lt_trichotomy v (f k) with l | l | l
        · exact absurd (Or.inl l) h
        · exact Or.inr ⟨l.symm, by by_contra q; exact h (Or.inr ⟨l, by omega⟩)⟩
        · exact Or.inl l
      refine ⟨v', n', a, b, Or.inr ?_, ?_, fun k' hk' => ?_⟩
      · rcases c with ⟨c, c'⟩ | ⟨k', hk', h⟩
        · exact ⟨k, List.mem_cons_self, c, c'⟩
        · exact ⟨k', List.mem_cons_of_mem _ hk', h⟩
      · rcases d with d | ⟨rfl, d⟩
        · rcases h' with h' | ⟨h', -⟩
          · exact Or.inl (d.trans h')
          · exact Or.inl (h' ▸ d)
        · rcases h' with h' | ⟨h', h''⟩
          · exact Or.inl h'
          · exact Or.inr ⟨h', by omega⟩
      · rcases List.mem_cons.1 hk' with rfl | hk'
        · exact d
        · exact e k' hk'

/-- The reference's reduction of the pairs (value, position) of a row is the word of the first position of the least
    value. -/
theorem argReduce_eq {R K : ℕ} [NeZero K] (hK : K ≤ 2 ^ 31) (x : FVec Ideal ⟨2, ![R, K]⟩ .f32) (y : IVec ⟨2, ![R, K]⟩ 32)
    (hy : ∀ r k, y (ix2 r k) = BitVec.ofNat 32 k.val) {u : Shape} (v0 : FVec Ideal u .f32) (n0 : IVec u 32)
    (h : (⟨2, ![R, K]⟩ : Shape).ReducesTo [1] ⟨1, ![R]⟩) (hu : 0 < u.numel) (hv : ∀ i, v0 i = (⊤ : EReal)) (hn : ∀ i, n0 i = 0#32) (r : Fin R) :
    (Host.argReduce (F := Ideal) reducer_argmin_f32_i32 x y v0 n0 h hu (ix1 r)).2
      = BitVec.ofNat 32 (first fun k => x (ix2 r k)).val := by
  have hf : ∀ i : (⟨2, ![R, K]⟩ : Shape).Idx, h.drop i = ix1 r ↔ ∃ k : Fin K, ix2 r k = i := h.fiber_r2_a1 (ix1 r)
  rw [Ideal.argReduce_eq_reduce2, Host.reduce2_eq_foldl_fiber, hv, hn]
  let col : (⟨2, ![R, K]⟩ : Shape).Idx → Fin K := fun i => i 1
  let L : List (Fin K) := ((List.finRange (⟨2, ![R, K]⟩ : Shape).numel).filter
    fun n => h.drop ((⟨2, ![R, K]⟩ : Shape).rowMajor.symm n) = ix1 r).map fun n => col ((⟨2, ![R, K]⟩ : Shape).rowMajor.symm n)
  have hL : Host.argReduceFiber x y h (ix1 r) = L.map fun k => (x (ix2 r k), BitVec.ofNat 32 k.val) := by
    unfold Host.argReduceFiber
    refine Eq.trans (List.map_congr_left fun n hn => ?_) (List.map_map (l := List.filter _ _)).symm
    obtain ⟨k, hk⟩ := (hf _).1 (of_decide_eq_true (List.mem_filter.1 hn).2)
    show _ = (x (ix2 r ((⟨2, ![R, K]⟩ : Shape).rowMajor.symm n 1)), BitVec.ofNat 32 ((⟨2, ![R, K]⟩ : Shape).rowMajor.symm n 1).val)
    rw [← hk, hy]
    rfl
  have hall : ∀ k : Fin K, k ∈ L := fun k => List.mem_map.2 ⟨(⟨2, ![R, K]⟩ : Shape).rowMajor (ix2 r k),
    List.mem_filter.2 ⟨List.mem_finRange _, decide_eq_true (by rw [Equiv.symm_apply_apply]; exact (hf _).2 ⟨k, rfl⟩)⟩,
    by rw [Equiv.symm_apply_apply]; rfl⟩
  obtain ⟨v', n', -, e, c, -, l⟩ := fold_first hK (fun k => x (ix2 r k)) L ⊤ 0 (by decide)
  rw [hL]
  refine (congrArg Prod.snd e).trans (congrArg (BitVec.ofNat 32) ?_)
  show n' = _
  rcases c with ⟨rfl, rfl⟩ | ⟨k, -, rfl, rfl⟩
  · have : IsFirst (fun k => x (ix2 r k)) (0 : Fin K) := fun k' => by
      have top : ∀ k, x (ix2 r k) = (⊤ : EReal) := fun k => by
        rcases l k (hall k) with q | ⟨q, -⟩
        · exact absurd q not_top_lt
        · exact q.symm
      exact Or.inr ⟨(top 0).trans (top k').symm, by simp⟩
    rw [← this.eq_first]; rfl
  · exact congrArg Fin.val (IsFirst.eq_first (f := fun k => x (ix2 r k)) fun k' => l k' (hall k'))

end Cert.Proof.Value

end
-- ==== Proof.Value.Assign.lean ====
/-
  The nearest centroid of a point over the extended reals: what the reference's assignment, a block of the kernel's
  last loop, and the one-hot matrix of the kernel's accumulating loop hold.
-/
module

public import proofs.«01_k».proof.Proof.Value.Argmin
public import proofs.«01_k».proof.Proof.PI.Contents

@[expose] public section

set_option maxRecDepth 16384

noncomputable section

namespace Cert.Proof.Value

open Idealize.ShloMosaic

/-- The squared distance of a point `p` to centroid `k`, as both programs compute it: |p|² + |c|² − 2 p·c. -/
def sqDist (p : Fin 256 → EReal) (c : Fin 1024 → Fin 256 → EReal) (k : Fin 1024) : EReal :=
  ((∑ l, p l * p l) + ∑ l, c k l * c k l) - Ideal.ofBits .f32 0x40000000#32 * ∑ l, p l * c k l

/-- The nearest centroid of a point, the first one where several are nearest. -/
def near (p : Fin 256 → EReal) (c : Fin 1024 → Fin 256 → EReal) : Fin 1024 := first (sqDist p c)

/-- Row `i` of a matrix. -/
def row {R : ℕ} (x : Vec Ideal ⟨2, ![R, 256]⟩ .f32) (i : Fin R) (l : Fin 256) : EReal := x (ix2 i l)

section Reference
open Cert.ReferenceIdeal Cert.ReferenceIdeal.Gen

/-- The reference's distances are the squared distances. -/
theorem dist_apply (x : Vec Ideal S16384x256 .f32) (c : Vec Ideal S1024x256 .f32) (i : Fin 16384) (k : Fin 1024) :
    RI.dist x c (ix2 i k) = sqDist (row x i) (row c) k := by
  pointwise [RI.dist]
  rfl

/-- The reference's first value of the row's minimum is +∞. -/
theorem inf_eq (i : S_.Idx) : constant (F := Ideal) S_ .f32 0x7F800000#32 i = (⊤ : EReal) := by
  show Ideal.ofBits .f32 0x7F800000#32 = ⊤
  simp [Ideal.ofBits, Ideal.ieee]

/-- The reference's assignment as a function of the rows. -/
theorem ref_asg_eq (x : Vec Ideal S16384x256 .f32) (c : Vec Ideal S1024x256 .f32) : RI.asg x c = fun j =>
    (Host.argReduce reducer_argmin_f32_i32 (RI.dist x c) (iotaInDim S16384x1024 32 1) (constant S_ .f32 0x7F800000#32)
      (constantI S_ 32 0#32) reducesTo_S16384x1024_S16384_d1 h_S_ j).2 := by
  delta RI.asg
  with_reducible rfl

/-- The reference assigns every point to its nearest centroid. -/
theorem ref_asg_apply (x : Vec Ideal S16384x256 .f32) (c : Vec Ideal S1024x256 .f32) (i : Fin 16384) :
    RI.asg x c (ix1 i) = BitVec.ofNat 32 (near (row x i) (row c)).val := by
  have e := argReduce_eq (by norm_num) (RI.dist x c) (iotaInDim S16384x1024 32 1) (fun r k => by pointwise)
    (constant S_ .f32 0x7F800000#32) (constantI S_ 32 0#32) reducesTo_S16384x1024_S16384_d1 h_S_ inf_eq (fun i => rfl) i
  refine (congrFun (ref_asg_eq x c) (ix1 i)).trans (e.trans ?_)
  unfold near
  exact congrArg (fun f => BitVec.ofNat 32 (first f).val) (funext fun k => dist_apply x c i k)

end Reference

section Kernel
open Cert.KernelIdeal Cert.KernelIdeal.Gen

/-- The kernel's distances of a block of points, as a matrix. -/
def blockDist (cent : FVec Ideal S1024x256 .f32) (xb : FVec Ideal S2048x256 .f32) : FVec Ideal S2048x1024 .f32 :=
  subf
    (addf
      (broadcastTo S2048x1024
        (shapeCast S2048x1 (multiReduction .add [1] S2048 (mulf xb xb) 0x00000000#32 reduces_S2048x256_S2048 (.inl rfl) rfl) shapeCasts_S2048_S2048x1)
        broadcasts_S2048x1_S2048x1024)
      (broadcastTo S2048x1024
        (matmul dot_S1x256_S1024x256_S1x1024_1_1_0_0_n_n (some .fp32) (broadcast S1x256 (Scalar.ofBits .f32 0x3F800000#32 : Ideal .f32)) (mulf cent cent)
          (constant S1x1024 .f32 0x00000000#32))
        broadcasts_S1x1024_S2048x1024))
    (mulf (broadcast S2048x1024 (Scalar.ofBits .f32 0x40000000#32 : Ideal .f32))
      (matmul dot_S2048x256_S1024x256_S2048x1024_1_1_0_0_n_n none xb cent (constant S2048x1024 .f32 0x00000000#32)))

/-- They are the squared distances. -/
theorem blockDist_apply (cent : Vec Ideal S1024x256 .f32) (xb : Vec Ideal S2048x256 .f32) (r : Fin 2048) (k : Fin 1024) :
    blockDist cent xb (ix2 r k) = sqDist (row xb r) (row cent) k := by
  pointwise [blockDist]
  rfl

/-- The index of the least distance in a row of the block is the nearest centroid's. -/
theorem blockDist_argmin (cent : Vec Ideal S1024x256 .f32) (xb : Vec Ideal S2048x256 .f32) (r : Fin 2048) :
    reduceIndex (F := Ideal) .argMin 1 S2048 (blockDist cent xb) reduces_S2048x1024_S2048 (ix1 r)
      = BitVec.ofNat 32 (near (row xb r) (row cent)).val := by
  refine (reduceIndex_eq reduces_S2048x1024_S2048 (blockDist cent xb) r).trans ?_
  exact congrArg (fun f => BitVec.ofNat 32 (first f).val) (funext fun k => blockDist_apply cent xb r k)

/-- What the last loop stores for a block, as an array; -/
theorem pay15_eq (cent : Vec Ideal S1024x256 .f32) (xb : Vec Ideal S2048x256 .f32) :
    k0_pay15 cent xb = shapeCast S2048 (shapeCast S2048x1
      (reduceIndex (F := Ideal) .argMin 1 S2048 (blockDist cent xb) reduces_S2048x1024_S2048) shapeCasts_S2048_S2048x1) shapeCasts_S2048x1_S2048 := by
  delta k0_pay15 blockDist
  with_reducible rfl

/-- at a point: its nearest centroid. -/
theorem pay15_apply (cent : Vec Ideal S1024x256 .f32) (xb : Vec Ideal S2048x256 .f32) (r : Fin 2048) :
    k0_pay15 cent xb (ix1 r) = BitVec.ofNat 32 (near (row xb r) (row cent)).val := by
  refine Eq.trans ?_ (blockDist_argmin cent xb r)
  rw [pay15_eq]
  pointwise

/-- The one-hot bit of a point's nearest centroid, as a number. -/
theorem oneHot_eq (n k : Fin 1024) :
    FloatOps.sitofp (F := Ideal) FTy.f32 (BitVec.setWidth 32 (IntOp.cmpi CmpIPredicate.eq (BitVec.ofNat 32 n.val) (BitVec.ofNat 32 k.val)))
      = if n = k then (1 : EReal) else 0 := by
  rw [WordCmp.cmpi_eq_ofNat (by have := n.isLt; omega) (by have := k.isLt; omega)]
  show (((BitVec.setWidth 32 _).toInt : ℝ) : EReal) = _
  have e1 : (BitVec.setWidth 32 (BitVec.ofBool true)).toInt = 1 := by decide
  have e0 : (BitVec.setWidth 32 (BitVec.ofBool false)).toInt = 0 := by decide
  by_cases h : n = k
  · rw [if_pos h, decide_eq_true (congrArg Fin.val h), e1]
    norm_num
  · rw [if_neg h, decide_eq_false fun q => h (Fin.ext q), e0]
    norm_num

/-- The product of the one-hot matrix with a block of augmented points, as an array; -/
theorem pay11_eq (cent : Vec Ideal S1024x256 .f32) (xb : Vec Ideal S2048x256 .f32) (aug : Vec Ideal S2048x896 .bf16) :
    k0_pay11 cent xb aug = matmul (φ₁ := .bf16) (φ₂ := .bf16) dot_S2048x1024_S2048x896_S1024x896_0_0_1_1_n_n none
      (truncf .bf16 (sitofp .f32 (extui 32 (cmpi .eq
        (broadcastTo S2048x1024 (shapeCast S2048x1 (reduceIndex (F := Ideal) .argMin 1 S2048 (blockDist cent xb) reduces_S2048x1024_S2048)
          shapeCasts_S2048_S2048x1) broadcasts_S2048x1_S2048x1024)
        (iota .tc S2048x1024 32 [1] iota_S2048x1024_d1_w32)) natLt_1_32)) bitsLt_bf16_f32) aug (constant S1024x896 .f32 0x00000000#32) := by
  delta k0_pay11 blockDist
  with_reducible rfl

/-- at a centroid and a column: the sum of the rows whose point is nearest to the centroid. -/
theorem pay11_apply (cent : Vec Ideal S1024x256 .f32) (xb : Vec Ideal S2048x256 .f32) (aug : Vec Ideal S2048x896 .bf16)
    (k : Fin 1024) (q : Fin 896) :
    k0_pay11 cent xb aug (ix2 k q) = ∑ r : Fin 2048, if near (row xb r) (row cent) = k then (aug (ix2 r q) : EReal) else 0 := by
  rw [pay11_eq]
  pointwise
  refine Finset.sum_congr rfl fun r _ => ?_
  rw [blockDist_argmin, oneHot_eq]
  split
  · exact one_mul _
  · exact zero_mul _

end Kernel

end Cert.Proof.Value

end
-- ==== Proof.Value.Blocks.lean ====
/-
  The blocks the kernel reads, at an index, and the augmented points of finite points: the points, then two pieces of
  zeros (what the points' rounding leaves over is nothing over the extended reals), then ones.
-/
module

public import proofs.«01_k».proof.Proof.PI.Contents
public import Idealize.ShloMosaic.Lib.Pointwise

@[expose] public section

set_option maxRecDepth 16384

noncomputable section

namespace Cert.Proof.Value

open Cert.KernelIdeal Cert.KernelIdeal.Gen
open Idealize.ShloMosaic Idealize.ShloMosaic.VecWindow

/-- Row `r` of block `b` of the points. -/
def blockRow (b : ℕ) (hb : b < 8) (r : Fin 2048) : Fin 16384 := ⟨2048 * b + r.val, by have := r.isLt; omega⟩

/-- The block that each loop reads holds the points of its rows: the first loop's, -/
theorem blk1_apply (fx : Vec Ideal S16384x256 .f32) (b : Fin k0_t1_loop.trips) (hb : b.val < 8) (r : Fin 2048) (l : Fin 256) :
    PI.blk1 fx b (ix2 r l) = fx (ix2 (blockRow b.val hb r) l) := by
  refine congrArg fx (funext fun a => Fin.ext ?_)
  match a with
  | ⟨0, _⟩ => show k0_off1 b 0 + 1 * r.val = 2048 * b.val + r.val; rw [k0_off1_eq]; show 2048 * b.val + 1 * r.val = _; omega
  | ⟨1, _⟩ => show k0_off1 b 1 + 1 * l.val = l.val; rw [k0_off1_eq]; show 0 + 1 * l.val = _; omega

/-- the accumulating loop's, -/
theorem blk3_apply (fx : Vec Ideal S16384x256 .f32) (b : Fin k0_t3_loop.trips) (hb : b.val < 8) (r : Fin 2048) (l : Fin 256) :
    PI.blk3 fx b (ix2 r l) = fx (ix2 (blockRow b.val hb r) l) := by
  refine congrArg fx (funext fun a => Fin.ext ?_)
  match a with
  | ⟨0, _⟩ => show k0_off6 b 0 + 1 * r.val = 2048 * b.val + r.val; rw [k0_off6_eq]; show 2048 * b.val + 1 * r.val = _; omega
  | ⟨1, _⟩ => show k0_off6 b 1 + 1 * l.val = l.val; rw [k0_off6_eq]; show 0 + 1 * l.val = _; omega

/-- its block of the augmented points, -/
theorem ablk3_apply (fa : Vec Ideal S16384x896 .bf16) (b : Fin k0_t3_loop.trips) (hb : b.val < 8) (r : Fin 2048) (q : Fin 896) :
    PI.ablk3 fa b (ix2 r q) = fa (ix2 (blockRow b.val hb r) q) := by
  refine congrArg fa (funext fun a => Fin.ext ?_)
  match a with
  | ⟨0, _⟩ => show k0_off7 b 0 + 1 * r.val = 2048 * b.val + r.val; rw [k0_off7_eq]; show 2048 * b.val + 1 * r.val = _; omega
  | ⟨1, _⟩ => show k0_off7 b 1 + 1 * q.val = q.val; rw [k0_off7_eq]; show 0 + 1 * q.val = _; omega

/-- and the last loop's. -/
theorem blk4_apply (fx : Vec Ideal S16384x256 .f32) (b : Fin k0_t4_loop.trips) (hb : b.val < 8) (r : Fin 2048) (l : Fin 256) :
    PI.blk4 fx b (ix2 r l) = fx (ix2 (blockRow b.val hb r) l) := by
  refine congrArg fx (funext fun a => Fin.ext ?_)
  match a with
  | ⟨0, _⟩ => show k0_off8 b 0 + 1 * r.val = 2048 * b.val + r.val; rw [k0_off8_eq]; show 2048 * b.val + 1 * r.val = _; omega
  | ⟨1, _⟩ => show k0_off8 b 1 + 1 * l.val = l.val; rw [k0_off8_eq]; show 0 + 1 * l.val = _; omega

/-- What was put, read at a place inside the window. -/
theorem put_at {α : Type} {s : Shape} (x : s.Idx → α) (off size : Fin s.rank → ℕ) (w : ((a : Fin s.rank) → Fin (size a)) → α)
    (i : s.Idx) (z : (a : Fin s.rank) → Fin (size a)) (h : ∀ a, (i a).val = off a + (z a).val) : put x off size w i = w z := by
  unfold put
  rw [dif_pos fun a => by have := h a; have := (z a).isLt; omega]
  refine congrArg w (funext fun a => Fin.ext ?_)
  show (i a).val - off a = (z a).val
  have := h a
  omega

/-- Over the extended reals the first piece of a block is the block itself, -/
theorem pay5_apply (v : Vec Ideal S2048x256 .f32) (r : Fin 2048) (l : Fin 256) : k0_pay5 v (ix2 r l) = (v (ix2 r l) : EReal) := by
  pointwise [k0_pay5, k0_pay2]
/-- the second piece is the point less itself, -/
theorem pay6_apply (v : Vec Ideal S2048x256 .f32) (r : Fin 2048) (l : Fin 256) :
    k0_pay6 v (ix2 r l) = ((v (ix2 r l) : EReal) - (v (ix2 r l) : EReal) : EReal) := by
  pointwise [k0_pay6, k0_pay4, k0_pay3, k0_pay2]
/-- the third piece is the rest less itself, -/
theorem pay7_apply (v : Vec Ideal S2048x256 .f32) (r : Fin 2048) (l : Fin 256) :
    k0_pay7 v (ix2 r l) = (((v (ix2 r l) : EReal) - (v (ix2 r l) : EReal)) - ((v (ix2 r l) : EReal) - (v (ix2 r l) : EReal)) : EReal) := by
  pointwise [k0_pay7, k0_pay4, k0_pay3, k0_pay2]
/-- and the last block is ones. -/
theorem pay8_apply (r : Fin 2048) (q : Fin 128) : k0_pay8 (F := Ideal) (ix2 r q) = (1 : EReal) := by
  pointwise [k0_pay8]

/-- The trip that stores row `p`, and the row's place in its block. -/
theorem trip1_val (p : Fin 16384) (q : Fin 896) : (PI.trip1 (ix2 p q)).val = p.val / 2048 := rfl

/-- A row is the row of its own block. -/
theorem blockRow_div (p : Fin 16384) (hb : p.val / 2048 < 8) : blockRow (p.val / 2048) hb ⟨p.val % 2048, Nat.mod_lt _ (by decide)⟩ = p :=
  Fin.ext (by show 2048 * (p.val / 2048) + p.val % 2048 = p.val; omega)

/-- A point, in its block. -/
theorem blk1_row (fx : Vec Ideal S16384x256 .f32) (p : Fin 16384) (q : Fin 896) (l : Fin 256) :
    PI.blk1 fx (PI.trip1 (ix2 p q)) (ix2 (⟨p.val % 2048, Nat.mod_lt _ (by decide)⟩ : Fin 2048) l) = fx (ix2 p l) := by
  have hb : p.val / 2048 < 8 := by have := p.isLt; omega
  rw [blk1_apply fx (PI.trip1 (ix2 p q)) hb]
  exact congrArg (fun z => fx (ix2 z l)) (blockRow_div p hb)

/-- The first piece of the augmented points: the points. -/
theorem xaug_lo (fx : Vec Ideal S16384x256 .f32) (p : Fin 16384) (l : Fin 256) (q : Fin 896) (hq : q.val = l.val) :
    PI.xaug fx (ix2 p q) = (fx (ix2 p l) : EReal) := by
  obtain ⟨o2, o3, o4, o5⟩ := PI.offs1 (PI.trip1 (ix2 p q))
  have hl := l.isLt
  unfold PI.xaug PI.put1
  rw [PI.put_miss _ _ _ _ (ix2 p q) 1 (Or.inl (by rw [o5]; show q.val < 768; omega)),
    PI.put_miss _ _ _ _ (ix2 p q) 1 (Or.inl (by rw [o4]; show q.val < 512; omega)),
    PI.put_miss _ _ _ _ (ix2 p q) 1 (Or.inl (by rw [o3]; show q.val < 256; omega)),
    put_at (s := S16384x896) _ _ S2048x256.size _ (ix2 p q) (ix2 (⟨p.val % 2048, Nat.mod_lt _ (by decide)⟩ : Fin 2048) l : S2048x256.Idx) (by
      rw [o2]
      refine Fin.forall_fin_two.2 ⟨?_, ?_⟩
      · show p.val = 2048 * (p.val / 2048) + p.val % 2048; omega
      · show q.val = 0 + l.val; omega),
    pay5_apply, blk1_row]

/-- The second piece: zeros, where the points are finite. -/
theorem xaug_mid (fx : Vec Ideal S16384x256 .f32) (hfin : ∀ i, (fx i : EReal) ≠ ⊤ ∧ (fx i : EReal) ≠ ⊥) (p : Fin 16384) (l : Fin 256)
    (q : Fin 896) (hq : q.val = 256 + l.val) : PI.xaug fx (ix2 p q) = (0 : EReal) := by
  obtain ⟨o2, o3, o4, o5⟩ := PI.offs1 (PI.trip1 (ix2 p q))
  have hl := l.isLt
  unfold PI.xaug PI.put1
  rw [PI.put_miss _ _ _ _ (ix2 p q) 1 (Or.inl (by rw [o5]; show q.val < 768; omega)),
    PI.put_miss _ _ _ _ (ix2 p q) 1 (Or.inl (by rw [o4]; show q.val < 512; omega)),
    put_at (s := S16384x896) _ _ S2048x256.size _ (ix2 p q) (ix2 (⟨p.val % 2048, Nat.mod_lt _ (by decide)⟩ : Fin 2048) l : S2048x256.Idx) (by
      rw [o3]
      refine Fin.forall_fin_two.2 ⟨?_, ?_⟩
      · show p.val = 2048 * (p.val / 2048) + p.val % 2048; omega
      · show q.val = 256 + l.val; omega),
    pay6_apply, blk1_row]
  exact EReal.sub_self (hfin _).1 (hfin _).2

/-- The third piece: zeros, where the points are finite. -/
theorem xaug_low (fx : Vec Ideal S16384x256 .f32) (hfin : ∀ i, (fx i : EReal) ≠ ⊤ ∧ (fx i : EReal) ≠ ⊥) (p : Fin 16384) (l : Fin 256)
    (q : Fin 896) (hq : q.val = 512 + l.val) : PI.xaug fx (ix2 p q) = (0 : EReal) := by
  obtain ⟨o2, o3, o4, o5⟩ := PI.offs1 (PI.trip1 (ix2 p q))
  have hl := l.isLt
  unfold PI.xaug PI.put1
  rw [PI.put_miss _ _ _ _ (ix2 p q) 1 (Or.inl (by rw [o5]; show q.val < 768; omega)),
    put_at (s := S16384x896) _ _ S2048x256.size _ (ix2 p q) (ix2 (⟨p.val % 2048, Nat.mod_lt _ (by decide)⟩ : Fin 2048) l : S2048x256.Idx) (by
      rw [o4]
      refine Fin.forall_fin_two.2 ⟨?_, ?_⟩
      · show p.val = 2048 * (p.val / 2048) + p.val % 2048; omega
      · show q.val = 512 + l.val; omega),
    pay7_apply, blk1_row, EReal.sub_self (hfin _).1 (hfin _).2]
  exact EReal.sub_self (by simp) (by simp)

/-- The last columns: ones. -/
theorem xaug_ones (fx : Vec Ideal S16384x256 .f32) (p : Fin 16384) (l : Fin 128) (q : Fin 896) (hq : q.val = 768 + l.val) :
    PI.xaug fx (ix2 p q) = (1 : EReal) := by
  obtain ⟨o2, o3, o4, o5⟩ := PI.offs1 (PI.trip1 (ix2 p q))
  have hl := l.isLt
  unfold PI.xaug PI.put1
  rw [put_at (s := S16384x896) _ _ S2048x128.size _ (ix2 p q) (ix2 (⟨p.val % 2048, Nat.mod_lt _ (by decide)⟩ : Fin 2048) l : S2048x128.Idx) (by
      rw [o5]
      refine Fin.forall_fin_two.2 ⟨?_, ?_⟩
      · show p.val = 2048 * (p.val / 2048) + p.val % 2048; omega
      · show q.val = 768 + l.val; omega),
    pay8_apply]

end Cert.Proof.Value

end
-- ==== Proof.Value.Sums.lean ====
/-
  The kernel's sums and counts after a Lloyd step's blocks: over all points, the point, or one, where the point is
  nearest to the centroid.
-/
module

public import proofs.«01_k».proof.Proof.Value.Assign
public import proofs.«01_k».proof.Proof.Value.Blocks

@[expose] public section

set_option maxRecDepth 16384

noncomputable section

namespace Cert.Proof.Value

open Cert.KernelIdeal Cert.KernelIdeal.Gen
open Idealize.ShloMosaic

/-- `f` at point `m` if it is nearest to centroid `k`, otherwise 0, and 0 beyond the last point. -/
def pick (fx : Vec Ideal S16384x256 .f32) (cent : Vec Ideal S1024x256 .f32) (k : Fin 1024) (f : Fin 16384 → EReal) (m : ℕ) : EReal :=
  if h : m < 16384 then (if near (row fx ⟨m, h⟩) (row cent) = k then f ⟨m, h⟩ else 0) else 0

/-- A block of the points has their rows. -/
theorem row_blk3 (fx : Vec Ideal S16384x256 .f32) (b : Fin k0_t3_loop.trips) (hb : b.val < 8) (r : Fin 2048) :
    row (PI.blk3 fx b) r = row fx (blockRow b.val hb r) := funext fun l => blk3_apply fx b hb r l

/-- The product of the one-hot matrix with block `b` of the augmented points, in a column that holds `f`: the picked
    values of the block's points. -/
theorem block_sum (fx : Vec Ideal S16384x256 .f32) (cent : Vec Ideal S1024x256 .f32) (b : Fin k0_t3_loop.trips) (hb : b.val < 8)
    (k : Fin 1024) (q : Fin 896) (f : Fin 16384 → EReal) (hf : ∀ p, PI.xaug fx (ix2 p q) = f p) :
    k0_pay11 cent (PI.blk3 fx b) (PI.ablk3 (PI.xaug fx) b) (ix2 k q)
      = ∑ m ∈ Finset.range 2048, pick fx cent k f (2048 * b.val + m) := by
  rw [pay11_apply, Finset.sum_range]
  refine Finset.sum_congr rfl fun r _ => ?_
  have h : 2048 * b.val + r.val < 16384 := by have := r.isLt; omega
  unfold pick
  rw [dif_pos h, row_blk3 fx b hb, ablk3_apply _ b hb, hf]
  rfl

/-- Where every term is zero, so is the one picked. -/
theorem pick_zero (fx : Vec Ideal S16384x256 .f32) (cent : Vec Ideal S1024x256 .f32) (k : Fin 1024) (m : ℕ) :
    pick fx cent k (fun _ => 0) m = 0 := by
  unfold pick
  split
  · exact ite_self _
  · rfl

/-- The sums and the counts after `n` blocks. -/
theorem accTo_eq (fx : Vec Ideal S16384x256 .f32) (hfin : ∀ i, (fx i : EReal) ≠ ⊤ ∧ (fx i : EReal) ≠ ⊥) (cent : Vec Ideal S1024x256 .f32)
    (k : Fin 1024) (l : Fin 256) : ∀ n, n ≤ 8 →
    ((PI.accTo fx (PI.xaug fx) cent n).1 (ix2 k l) = ∑ m ∈ Finset.range (2048 * n), pick fx cent k (fun p => fx (ix2 p l)) m
      ∧ (PI.accTo fx (PI.xaug fx) cent n).2 (ix2 k 0) = ∑ m ∈ Finset.range (2048 * n), pick fx cent k (fun _ => 1) m) := by
  intro n
  induction n with
  | zero =>
    intro _
    constructor
    · show k0_pay9 (F := Ideal) (ix2 k l) = _
      pointwise [k0_pay9]
      rfl
    · show k0_pay10 (F := Ideal) (ix2 k 0) = _
      pointwise [k0_pay10]
      rfl
  | succ n ih =>
    intro hn
    obtain ⟨h1, h2⟩ := ih (by omega)
    have ht : n < k0_t3_loop.trips := by rw [PI.trips3]; omega
    have e := PI.accTo_succ fx (PI.xaug fx) cent ⟨n, ht⟩
    have e : PI.accTo fx (PI.xaug fx) cent (n + 1) = _ := e
    have hl := l.isLt
    rw [e, Nat.mul_succ, Finset.sum_range_add, Finset.sum_range_add]
    constructor
    · show k0_pay12 _ _ _ _ (ix2 k l) = _
      have s0 := block_sum fx cent ⟨n, ht⟩ (by show n < 8; omega) k ⟨l.val, by omega⟩ (fun p => fx (ix2 p l)) (fun p => xaug_lo fx p l _ rfl)
      have s1 := block_sum fx cent ⟨n, ht⟩ (by show n < 8; omega) k ⟨256 + l.val, by omega⟩ (fun p => 0) (fun p => xaug_mid fx hfin p l _ rfl)
      have s2 := block_sum fx cent ⟨n, ht⟩ (by show n < 8; omega) k ⟨512 + l.val, by omega⟩ (fun p => 0) (fun p => xaug_low fx hfin p l _ rfl)
      simp only [pick_zero, Finset.sum_const_zero] at s1 s2
      pointwise [k0_pay12]
      rw [s0, s1, s2, add_zero, add_zero, ← h1]
    · show k0_pay13 _ _ _ _ (ix2 k 0) = _
      have s0 := block_sum fx cent ⟨n, ht⟩ (by show n < 8; omega) k ⟨768, by omega⟩ (fun p => 1) (fun p => xaug_ones fx p 0 _ rfl)
      pointwise [k0_pay13]
      rw [← h2]
      exact congrArg (fun z : EReal => _ + z) s0

/-- Over all points. -/
theorem pick_all (fx : Vec Ideal S16384x256 .f32) (cent : Vec Ideal S1024x256 .f32) (k : Fin 1024) (f : Fin 16384 → EReal) :
    ∑ m ∈ Finset.range (2048 * 8), pick fx cent k f m = ∑ i : Fin 16384, if near (row fx i) (row cent) = k then f i else 0 := by
  rw [Finset.sum_range]
  refine Finset.sum_congr rfl fun i _ => ?_
  unfold pick
  exact dif_pos i.isLt

/-- The sums that a Lloyd step divides are those of the points assigned to each centroid, -/
theorem acc_sums (fx : Vec Ideal S16384x256 .f32) (hfin : ∀ i, (fx i : EReal) ≠ ⊤ ∧ (fx i : EReal) ≠ ⊥) (cent : Vec Ideal S1024x256 .f32)
    (k : Fin 1024) (l : Fin 256) :
    (PI.accTo fx (PI.xaug fx) cent k0_t3_loop.trips).1 (ix2 k l)
      = ∑ i : Fin 16384, if near (row fx i) (row cent) = k then (fx (ix2 i l) : EReal) else 0 := by
  rw [PI.trips3, (accTo_eq fx hfin cent k l 8 (le_refl _)).1, pick_all]

/-- and the counts are the number of those points. -/
theorem acc_counts (fx : Vec Ideal S16384x256 .f32) (hfin : ∀ i, (fx i : EReal) ≠ ⊤ ∧ (fx i : EReal) ≠ ⊥) (cent : Vec Ideal S1024x256 .f32)
    (k : Fin 1024) :
    (PI.accTo fx (PI.xaug fx) cent k0_t3_loop.trips).2 (ix2 k 0)
      = ∑ i : Fin 16384, if near (row fx i) (row cent) = k then (1 : EReal) else 0 := by
  rw [PI.trips3, (accTo_eq fx hfin cent k 0 8 (le_refl _)).2, pick_all]

end Cert.Proof.Value

end
-- ==== Proof.Value.Scatter.lean ====
/-
  The reference's sums and counts over the extended reals: the sum over all points of the point, or of one, where the
  point is assigned to the centroid.
-/
module

public import proofs.«01_k».proof.Proof.RI.Contents
public import Idealize.ShloMosaic.Lib.Pointwise
public import Idealize.ShloMosaic.Lib.WordCmp
public import Idealize.ShloMosaic.Lib.Routing.OpsPair

@[expose] public section

set_option maxRecDepth 16384

noncomputable section

namespace Cert.Proof.Value

open Cert.ReferenceIdeal Cert.ReferenceIdeal.Gen
open Idealize.ShloMosaic

/-- Where the update of a point's coordinate lands: in the row of its index word, in its own column. -/
theorem lands2 (i : Fin 16384) (l' l : Fin 256) (k : Fin 1024) (idx : IVec S16384x1 32) :
    scatter_S1024x256_S16384x1_S16384x256_1_0_0_1.resultIdx? (ix2 i l') idx = some (ix2 k l)
      ↔ (idx (ix2 i 0)).toInt = k.val ∧ l' = l := by
  have h0 : scatter_S1024x256_S16384x1_S16384x256_1_0_0_1.window (ix2 i l') (0 : Fin 2) = 0 := rfl
  have h1 : scatter_S1024x256_S16384x1_S16384x256_1_0_0_1.window (ix2 i l') (1 : Fin 2) = l'.val := rfl
  have s1 : scatter_S1024x256_S16384x1_S16384x256_1_0_0_1.start (ix2 i l') idx (1 : Fin 2) = 0 := rfl
  have s0 : scatter_S1024x256_S16384x1_S16384x256_1_0_0_1.start (ix2 i l') idx (0 : Fin 2) = (idx (ix2 i 0)).toInt := by
    refine congrArg (fun z => (idx z).toInt) ?_
    funext a
    match a with
    | ⟨0, _⟩ => rfl
    | ⟨1, _⟩ => rfl
  rw [Routing.resultIdx?_eq_some]
  refine Fin.forall_fin_two.trans ?_
  rw [h0, h1, s0, s1]
  show ((idx (ix2 i 0)).toInt + (0 : ℕ) = (k.val : ℤ) ∧ (0 : ℤ) + (l'.val : ℤ) = (l.val : ℤ)) ↔ _
  rw [Fin.ext_iff]
  omega

/-- Where the update of a point's count lands: at its index word. -/
theorem lands1 (i : Fin 16384) (k : Fin 1024) (idx : IVec S16384x1 32) :
    scatter_S1024_S16384x1_S16384_n_0_0_1.resultIdx? (ix1 i) idx = some (ix1 k) ↔ (idx (ix2 i 0)).toInt = k.val := by
  have h0 : scatter_S1024_S16384x1_S16384_n_0_0_1.window (ix1 i) (0 : Fin 1) = 0 := rfl
  have s0 : scatter_S1024_S16384x1_S16384_n_0_0_1.start (ix1 i) idx (0 : Fin 1) = (idx (ix2 i 0)).toInt := by
    refine congrArg (fun z => (idx z).toInt) ?_
    funext a
    match a with
    | ⟨0, _⟩ => rfl
    | ⟨1, _⟩ => rfl
  rw [Routing.resultIdx?_eq_some]
  refine Fin.forall_fin_one.trans ?_
  rw [h0, s0]
  show ((idx (ix2 i 0)).toInt + (0 : ℕ) = (k.val : ℤ)) ↔ _
  omega

/-- A word of a natural below 1024 is another one's exactly when they are equal. -/
theorem toInt_ofNat_eq (n k : Fin 1024) : (BitVec.ofNat 32 n.val).toInt = (k.val : ℤ) ↔ n = k := by
  rw [WordCmp.toInt_ofNat_of_lt (by have := n.isLt; omega), Fin.ext_iff]
  omega

/-- The reference's sums: of the points' coordinates where the point is assigned to the centroid. -/
theorem sums_apply (x : Vec Ideal S16384x256 .f32) (a : Fin 16384 → Fin 1024) (w : IVec S16384 32)
    (hw : ∀ i, w (ix1 i) = BitVec.ofNat 32 (a i).val) (k : Fin 1024) (l : Fin 256) :
    RI.sums x w (ix2 k l) = ∑ i : Fin 16384, if a i = k then x (ix2 i l) else (0 : EReal) := by
  unfold RI.sums Host.scatterAdd
  rw [Ideal.hostScatterAdd_def]
  unfold Ideal.hostScatterAdd
  pointwise
  rw [Finset.sum_filter, sum_idx2]
  refine Finset.sum_congr rfl fun i _ => ?_
  rw [Finset.sum_eq_single l]
  · refine if_congr ?_ rfl rfl
    rw [lands2]
    pointwise
    rw [hw, toInt_ofNat_eq]
  · intro l' _ hne
    rw [if_neg]
    rw [lands2]
    exact fun h => hne h.2
  · exact fun h => absurd (Finset.mem_univ _) h

/-- The reference's counts: of one for each point assigned to the centroid. -/
theorem counts_apply (a : Fin 16384 → Fin 1024) (w : IVec S16384 32)
    (hw : ∀ i, w (ix1 i) = BitVec.ofNat 32 (a i).val) (k : Fin 1024) :
    RI.counts (F := Ideal) w (ix1 k) = ∑ i : Fin 16384, if a i = k then (1 : EReal) else (0 : EReal) := by
  unfold RI.counts Host.scatterAdd
  rw [Ideal.hostScatterAdd_def]
  unfold Ideal.hostScatterAdd
  pointwise
  rw [Finset.sum_filter, sum_idx1]
  refine Finset.sum_congr rfl fun i _ => ?_
  refine if_congr ?_ rfl rfl
  rw [lands1]
  pointwise
  rw [hw, toInt_ofNat_eq]

end Cert.Proof.Value

end
-- ==== Proof.Value.Equation.lean ====
/-
  The equation: over the extended reals and finite points, the kernel's centroids after every Lloyd step are the
  reference's, and so is the assignment to the last ones.
-/
module

public import proofs.«01_k».proof.Proof.Value.Sums
public import proofs.«01_k».proof.Proof.Value.Scatter

@[expose] public section

set_option maxRecDepth 16384

noncomputable section

namespace Cert.Proof.Value

open Cert.KernelIdeal Cert.KernelIdeal.Gen
open Idealize.ShloMosaic Idealize.ShloMosaic.VecWindow

/-- Vectors that agree at every place are equal; -/
theorem ext1 {α : Type} (f g : S16384.Idx → α) (h : ∀ i : Fin 16384, f (ix1 i) = g (ix1 i)) : f = g := by
  funext j
  have hj : j = ix1 (j 0) := by funext a; match a with | ⟨0, _⟩ => rfl
  rw [hj]
  exact h (j 0)

/-- and so are matrices. -/
theorem ext2 {α : Type} {R : ℕ} (f g : (⟨2, ![R, 256]⟩ : Shape).Idx → α)
    (h : ∀ (k : Fin R) (l : Fin 256), f (ix2 k l) = g (ix2 k l)) : f = g := by
  funext j
  have hj : j = ix2 (j 0) (j 1) := by funext a; match a with | ⟨0, _⟩ => rfl | ⟨1, _⟩ => rfl
  rw [hj]
  exact h (j 0) (j 1)

/-- The kernel's assignment of a point: the first of its nearest centroids. -/
theorem kernel_asg_apply (fx : Vec Ideal S16384x256 .f32) (cent : Vec Ideal S1024x256 .f32) (i : Fin 16384) :
    PI.asg fx cent (ix1 i) = BitVec.ofNat 32 (near (row fx i) (row cent)).val := by
  have hb : i.val / 2048 < 8 := by have := i.isLt; omega
  let t : Fin k0_t4_loop.trips := PI.trip4 (ix1 i)
  have ht : t.val = i.val / 2048 := rfl
  have hr : row (PI.blk4 fx t) ⟨i.val % 2048, Nat.mod_lt _ (by decide)⟩ = row fx i := by
    funext l
    refine (blk4_apply fx t hb ⟨i.val % 2048, Nat.mod_lt _ (by decide)⟩ l).trans ?_
    exact congrArg (fun p => fx (ix2 p l)) (blockRow_div i hb)
  rw [← hr, ← pay15_apply]
  refine put_at (s := S16384) (fun _ => 0#32) (k0_off9 t) S2048.size (k0_pay15 cent (PI.blk4 fx t)) (ix1 i)
    (ix1 (⟨i.val % 2048, Nat.mod_lt _ (by decide)⟩ : Fin 2048) : S2048.Idx) ?_
  rw [k0_off9_eq]
  refine Fin.forall_fin_one.2 ?_
  show i.val = 2048 * (i.val / 2048) + i.val % 2048
  omega

/-- The kernel assigns the points as the reference does. -/
theorem asg_eq (fx : Vec Ideal S16384x256 .f32) (cent : Vec Ideal S1024x256 .f32) : PI.asg fx cent = RI.asg fx cent := by
  refine ext1 _ _ fun i => ?_
  rw [kernel_asg_apply, ref_asg_apply]

/-- The kernel's new centroid is the reference's where the sums and the counts are. -/
theorem mean_eq (cent s s' : Vec Ideal S1024x256 .f32) (n : Vec Ideal S1024x1 .f32) (n' : Vec Ideal Cert.ReferenceIdeal.S1024 .f32)
    (k : Fin 1024) (l : Fin 256) (hs : s (ix2 k l) = s' (ix2 k l)) (hn : n (ix2 k 0) = n' (ix1 k)) :
    k0_pay14 cent n s (ix2 k l) = RI.means s' n' cent (ix2 k l) := by
  pointwise [k0_pay14, RI.means]
  rw [hs, hn]

/-- The kernel's sums are the reference's, -/
theorem sums_eq (fx : Vec Ideal S16384x256 .f32) (hfin : ∀ i, (fx i : EReal) ≠ ⊤ ∧ (fx i : EReal) ≠ ⊥)
    (cent : Vec Ideal S1024x256 .f32) (k : Fin 1024) (l : Fin 256) :
    (PI.accTo fx (PI.xaug fx) cent k0_t3_loop.trips).1 (ix2 k l) = RI.sums fx (RI.asg fx cent) (ix2 k l) := by
  rw [sums_apply fx (fun i => near (row fx i) (row cent)) (RI.asg fx cent) (ref_asg_apply fx cent) k l]
  exact acc_sums fx hfin cent k l

/-- and so are its counts. -/
theorem counts_eq (fx : Vec Ideal S16384x256 .f32) (hfin : ∀ i, (fx i : EReal) ≠ ⊤ ∧ (fx i : EReal) ≠ ⊥)
    (cent : Vec Ideal S1024x256 .f32) (k : Fin 1024) :
    (PI.accTo fx (PI.xaug fx) cent k0_t3_loop.trips).2 (ix2 k 0) = RI.counts (F := Ideal) (RI.asg fx cent) (ix1 k) := by
  rw [counts_apply (fun i => near (row fx i) (row cent)) (RI.asg fx cent) (ref_asg_apply fx cent) k]
  exact acc_counts fx hfin cent k

/-- The kernel's step is the mean of its sums and counts over all blocks; -/
theorem kernel_step (fx : Vec Ideal S16384x256 .f32) (cent : Vec Ideal S1024x256 .f32) : PI.step fx (PI.xaug fx) cent
    = k0_pay14 cent (PI.accTo fx (PI.xaug fx) cent k0_t3_loop.trips).2 (PI.accTo fx (PI.xaug fx) cent k0_t3_loop.trips).1 := by
  delta PI.step
  with_reducible rfl

/-- the reference's is the mean of its own. -/
theorem ref_step (fx : Vec Ideal S16384x256 .f32) (cent : Vec Ideal S1024x256 .f32) : RI.step fx cent
    = RI.means (RI.sums fx (RI.asg fx cent)) (RI.counts (RI.asg fx cent)) cent := by
  delta RI.step
  with_reducible rfl

/-- A Lloyd step of the kernel is one of the reference. -/
theorem step_eq (fx : Vec Ideal S16384x256 .f32) (hfin : ∀ i, (fx i : EReal) ≠ ⊤ ∧ (fx i : EReal) ≠ ⊥)
    (cent : Vec Ideal S1024x256 .f32) : PI.step fx (PI.xaug fx) cent = RI.step fx cent := by
  rw [kernel_step, ref_step]
  exact ext2 _ _ fun k l => mean_eq cent _ _ _ _ k l (sums_eq fx hfin cent k l) (counts_eq fx hfin cent k)

/-- The first centroids are the reference's: the first 1024 points. -/
theorem cent0_eq (fx : Vec Ideal S16384x256 .f32) : PI.cent0 fx = RI.cent0 fx := by
  refine ext2 _ _ fun k l => ?_
  pointwise [PI.cent0, RI.cent0, k0_pay1]
  refine congrArg fx (funext fun a => Fin.ext ?_)
  match a with
  | ⟨0, _⟩ => show 0 + 1 * k.val = _; rw [Nat.one_mul, Nat.zero_add]; rfl
  | ⟨1, _⟩ => show 0 + 1 * l.val = _; rw [Nat.one_mul, Nat.zero_add]; rfl

/-- The points reshaped to blocks and back are the points. -/
theorem pts_eq (fx : Vec Ideal S16384x256 .f32) : RI.pts fx = fx := by
  refine ext2 _ _ fun k l => ?_
  pointwise [RI.pts]

/-- The kernel's centroids after any number of steps are the reference's. -/
theorem centTo_eq (fx : Vec Ideal S16384x256 .f32) (hfin : ∀ i, (fx i : EReal) ≠ ⊤ ∧ (fx i : EReal) ≠ ⊥) :
    ∀ n : ℕ, PI.centTo fx n = RI.centTo fx n
  | 0 => cent0_eq fx
  | n + 1 => by
    show PI.step fx (PI.xaug fx) (PI.centTo fx n) = RI.step fx (RI.centTo fx n)
    rw [centTo_eq fx hfin n, step_eq fx hfin]

/-- The kernel's result is the reference's. -/
theorem out_eq (fx : Vec Ideal S16384x256 .f32) (hfin : ∀ i, (fx i : EReal) ≠ ⊤ ∧ (fx i : EReal) ≠ ⊥) :
    PI.out fx = RI.out fx := by
  show PI.asg fx (PI.centTo fx k0_t2_loop.trips) = RI.asg (RI.pts fx) (RI.centTo (RI.pts fx) 10)
  rw [PI.trips2, pts_eq, centTo_eq fx hfin, asg_eq]

end Cert.Proof.Value

end
-- ==== Proof.Value.Finite.lean ====
/-
  The precondition's last conjunct: where `distinct` holds, every coordinate of every point is a real number. The
  conjuncts before it are carried along unread.
-/
module

public import proofs.«01_k».proof.Proof.Gen.Pre_distinct
public import Idealize.ShloMosaic.Lib.Pointwise
public import Idealize.ShloMosaic.Lib.WordCmp
public import Idealize.ShloMosaic.Lib.ReduceAll

@[expose] public section

set_option maxRecDepth 16384

noncomputable section

namespace Cert.Proof.Value

open Cert.Pre_distinct Cert.Pre_distinct.Facts
open Idealize.ShloMosaic

local instance : Cert.Pre_distinct.Facts := Cert.Pre_distinct.Gen.facts

/-- A value of the precondition that, where it is one, makes every coordinate of the points a real number. -/
def Good (x : FVec Ideal S16384x256 .f32) (y : IVec S_ 1) : Prop :=
  y = (fun _ => 1#1) → ∀ i, (x i : EReal) ≠ ⊤ ∧ (x i : EReal) ≠ ⊥

/-- An extended real of magnitude below infinity is a real number. -/
theorem real_of_abs (a : EReal) (h : max a (-a) < ⊤) : a ≠ ⊤ ∧ a ≠ ⊥ := by
  constructor
  · rintro rfl
    exact absurd (lt_of_le_of_lt (le_max_left _ _) h) (lt_irrefl _)
  · rintro rfl
    exact absurd (lt_of_le_of_lt (le_max_right _ _) h) (by rw [EReal.neg_bot]; exact lt_irrefl _)

/-- Whatever came before, the last conjunct says that every coordinate is a real number. -/
theorem good_last (x : FVec Ideal S16384x256 .f32) (a : IVec S_ 1) :
    Good x (andi a (Host.reduce IntOp.andi
      (cmpf .olt (Host.absf x) (broadcastInDim S16384x256 ![] bcast_S_S16384x256 (constant S_ .f32 0x7F800000#32)))
      (constantI S_ 1 1#1) reducesTo_S16384x256_S_d0_1 h_S_)) := by
  intro h i
  have e := (IntOp.andi_eq_one.1 (congrFun h (fun z => z.elim0))).2
  have : Subsingleton S_.Idx := ⟨fun _ _ => funext fun z => z.elim0⟩
  have e' := Host.reduce_andi_all _ _ _ _ _ e i
  have hi : i = ix2 (i 0) (i 1) := by funext a; match a with | ⟨0, _⟩ => rfl | ⟨1, _⟩ => rfl
  refine real_of_abs _ ?_
  rw [hi] at e' ⊢
  revert e'
  pointwise
  have ht : Ideal.ofBits .f32 0x7F800000#32 = ⊤ := by simp [Ideal.ofBits, Ideal.ieee]
  rw [ht]
  intro e'
  by_contra hlt
  have hf : decide (FloatOps.absf (x i) < (⊤ : EReal)) = false := decide_eq_false hlt
  rw [hf] at e'
  exact absurd e' (by decide)

/-- Each part of the precondition ends in the next one, so the last conjunct is carried back to the first part. -/
theorem good_23 (x : FVec Ideal S16384x256 .f32) (v393 : IVec S_ 1) (v424 : FVec Ideal S16384x1024 .f32) (v426 : FVec Ideal S16384x1 .f32) :
    Good x (fn_part23 (F := Ideal) x v393 v424 v426) := by
  delta fn_part23
  exact good_last x _

/-- The precondition from part 22 on makes the coordinates real numbers, as it ends in part 23. -/
theorem good_22 (x : FVec Ideal S16384x256 .f32) (v369 : FVec Ideal S1024x256 .f32) (v393 : IVec S_ 1) (v406 : FVec Ideal S1024x256 .f32) (v407 : FVec Ideal S1024x1 .f32) :
    Good x (fn_part22 (F := Ideal) x v369 v393 v406 v407) := by
  delta fn_part22
  exact good_23 x _ _ _

/-- The precondition from part 21 on makes the coordinates real numbers, as it ends in part 22. -/
theorem good_21 (x : FVec Ideal S16384x256 .f32) (v352 : IVec S_ 1) (v369 : FVec Ideal S1024x256 .f32) (v383 : FVec Ideal S16384x1024 .f32) (v389 : IVec S16384 32) :
    Good x (fn_part21 (F := Ideal) x v352 v369 v383 v389) := by
  delta fn_part21
  exact good_22 x _ _ _ _

/-- The precondition from part 20 on makes the coordinates real numbers, as it ends in part 21. -/
theorem good_20 (x : FVec Ideal S16384x256 .f32) (v352 : IVec S_ 1) (v369 : FVec Ideal S1024x256 .f32) (v370 : FVec Ideal S16384x256 .f32) :
    Good x (fn_part20 (F := Ideal) x v352 v369 v370) := by
  delta fn_part20
  exact good_21 x _ _ _ _

/-- The precondition from part 19 on makes the coordinates real numbers, as it ends in part 20. -/
theorem good_19 (x : FVec Ideal S16384x256 .f32) (v311 : IVec S_ 1) (v328 : FVec Ideal S1024x256 .f32) (v342 : FVec Ideal S16384x1024 .f32) (v351 : IVec S_ 1) :
    Good x (fn_part19 (F := Ideal) x v311 v328 v342 v351) := by
  delta fn_part19
  exact good_20 x _ _ _

/-- The precondition from part 18 on makes the coordinates real numbers, as it ends in part 19. -/
theorem good_18 (x : FVec Ideal S16384x256 .f32) (v311 : IVec S_ 1) (v328 : FVec Ideal S1024x256 .f32) (v331 : FVec Ideal S16384x1 .f32) (v332 : FVec Ideal S1024x256 .f32) (cst_96 : FVec Ideal S_ .f32) :
    Good x (fn_part18 (F := Ideal) x v311 v328 v331 v332 cst_96) := by
  delta fn_part18
  exact good_19 x _ _ _ _

/-- The precondition from part 17 on makes the coordinates real numbers, as it ends in part 18. -/
theorem good_17 (x : FVec Ideal S16384x256 .f32) (v287 : FVec Ideal S1024x256 .f32) (v311 : IVec S_ 1) (v312 : IVec S16384 32) (v313 : FVec Ideal S1024x256 .f32) (v314 : IVec S16384x1 32) :
    Good x (fn_part17 (F := Ideal) x v287 v311 v312 v313 v314) := by
  delta fn_part17
  exact good_18 x _ _ _ _ _

/-- The precondition from part 16 on makes the coordinates real numbers, as it ends in part 17. -/
theorem good_16 (x : FVec Ideal S16384x256 .f32) (v270 : IVec S_ 1) (v287 : FVec Ideal S1024x256 .f32) (v296 : FVec Ideal S16384x1024 .f32) :
    Good x (fn_part16 (F := Ideal) x v270 v287 v296) := by
  delta fn_part16
  exact good_17 x _ _ _ _ _

/-- The precondition from part 15 on makes the coordinates real numbers, as it ends in part 16. -/
theorem good_15 (x : FVec Ideal S16384x256 .f32) (v246 : FVec Ideal S1024x256 .f32) (v270 : IVec S_ 1) (v271 : IVec S16384 32) (v274 : FVec Ideal S1024x256 .f32) (v275 : FVec Ideal S16384 .f32) (v276 : FVec Ideal S1024 .f32) :
    Good x (fn_part15 (F := Ideal) x v246 v270 v271 v274 v275 v276) := by
  delta fn_part15
  exact good_16 x _ _ _

/-- The precondition from part 14 on makes the coordinates real numbers, as it ends in part 15. -/
theorem good_14 (x : FVec Ideal S16384x256 .f32) (v229 : IVec S_ 1) (v246 : FVec Ideal S1024x256 .f32) (v255 : FVec Ideal S16384x1024 .f32) (v259 : FVec Ideal S16384x1024 .f32) :
    Good x (fn_part14 (F := Ideal) x v229 v246 v255 v259) := by
  delta fn_part14
  exact good_15 x _ _ _ _ _ _

/-- The precondition from part 13 on makes the coordinates real numbers, as it ends in part 14. -/
theorem good_13 (x : FVec Ideal S16384x256 .f32) (v205 : FVec Ideal S1024x256 .f32) (v229 : IVec S_ 1) (v233 : FVec Ideal S1024x256 .f32) (v237 : FVec Ideal S1024 .f32) (v239 : FVec Ideal S1024 .f32) :
    Good x (fn_part13 (F := Ideal) x v205 v229 v233 v237 v239) := by
  delta fn_part13
  exact good_14 x _ _ _ _

/-- The precondition from part 12 on makes the coordinates real numbers, as it ends in part 13. -/
theorem good_12 (x : FVec Ideal S16384x256 .f32) (v188 : IVec S_ 1) (v205 : FVec Ideal S1024x256 .f32) (v219 : FVec Ideal S16384x1024 .f32) (v222 : FVec Ideal S16384x1024 .f32) :
    Good x (fn_part12 (F := Ideal) x v188 v205 v219 v222) := by
  delta fn_part12
  exact good_13 x _ _ _ _ _

/-- The precondition from part 11 on makes the coordinates real numbers, as it ends in part 12. -/
theorem good_11 (x : FVec Ideal S16384x256 .f32) (v164 : FVec Ideal S1024x256 .f32) (v188 : IVec S_ 1) (v201 : FVec Ideal S1024x256 .f32) (v202 : FVec Ideal S1024x1 .f32) (cst_58 : FVec Ideal S_ .f32) :
    Good x (fn_part11 (F := Ideal) x v164 v188 v201 v202 cst_58) := by
  delta fn_part11
  exact good_12 x _ _ _ _

/-- The precondition from part 10 on makes the coordinates real numbers, as it ends in part 11. -/
theorem good_10 (x : FVec Ideal S16384x256 .f32) (v147 : IVec S_ 1) (v164 : FVec Ideal S1024x256 .f32) (v178 : FVec Ideal S16384x1024 .f32) (v184 : IVec S16384 32) (c_52 : IVec S_ 32) :
    Good x (fn_part10 (F := Ideal) x v147 v164 v178 v184 c_52) := by
  delta fn_part10
  exact good_11 x _ _ _ _ _

/-- The precondition from part 9 on makes the coordinates real numbers, as it ends in part 10. -/
theorem good_9 (x : FVec Ideal S16384x256 .f32) (v147 : IVec S_ 1) (v164 : FVec Ideal S1024x256 .f32) (v165 : FVec Ideal S16384x256 .f32) (cst_47 : FVec Ideal S_ .f32) :
    Good x (fn_part9 (F := Ideal) x v147 v164 v165 cst_47) := by
  delta fn_part9
  exact good_10 x _ _ _ _ _

/-- The precondition from part 8 on makes the coordinates real numbers, as it ends in part 9. -/
theorem good_8 (x : FVec Ideal S16384x256 .f32) (v123 : FVec Ideal S1024x256 .f32) (v137 : FVec Ideal S16384x1024 .f32) (v147 : IVec S_ 1) :
    Good x (fn_part8 (F := Ideal) x v123 v137 v147) := by
  delta fn_part8
  exact good_9 x _ _ _ _

/-- The precondition from part 7 on makes the coordinates real numbers, as it ends in part 8. -/
theorem good_7 (x : FVec Ideal S16384x256 .f32) (v106 : IVec S_ 1) (v123 : FVec Ideal S1024x256 .f32) (v126 : FVec Ideal S16384x1 .f32) (v128 : FVec Ideal S1024 .f32) :
    Good x (fn_part7 (F := Ideal) x v106 v123 v126 v128) := by
  delta fn_part7
  exact good_8 x _ _ _

/-- The precondition from part 6 on makes the coordinates real numbers, as it ends in part 7. -/
theorem good_6 (x : FVec Ideal S16384x256 .f32) (v82 : FVec Ideal S1024x256 .f32) (v106 : IVec S_ 1) (v107 : IVec S16384 32) (v110 : FVec Ideal S1024x256 .f32) :
    Good x (fn_part6 (F := Ideal) x v82 v106 v107 v110) := by
  delta fn_part6
  exact good_7 x _ _ _ _

/-- The precondition from part 5 on makes the coordinates real numbers, as it ends in part 6. -/
theorem good_5 (x : FVec Ideal S16384x256 .f32) (v65 : IVec S_ 1) (v82 : FVec Ideal S1024x256 .f32) (v91 : FVec Ideal S16384x1024 .f32) (v92 : FVec Ideal S256x1024 .f32) :
    Good x (fn_part5 (F := Ideal) x v65 v82 v91 v92) := by
  delta fn_part5
  exact good_6 x _ _ _ _

/-- The precondition from part 4 on makes the coordinates real numbers, as it ends in part 5. -/
theorem good_4 (x : FVec Ideal S16384x256 .f32) (v41 : FVec Ideal S1024x256 .f32) (v65 : IVec S_ 1) (v69 : FVec Ideal S1024x256 .f32) (v70 : FVec Ideal S16384 .f32) (v71 : FVec Ideal S1024 .f32) (v72 : IVec S16384x1 32) :
    Good x (fn_part4 (F := Ideal) x v41 v65 v69 v70 v71 v72) := by
  delta fn_part4
  exact good_5 x _ _ _ _

/-- The precondition from part 3 on makes the coordinates real numbers, as it ends in part 4. -/
theorem good_3 (x : FVec Ideal S16384x256 .f32) (v24 : IVec S_ 1) (v41 : FVec Ideal S1024x256 .f32) (v55 : FVec Ideal S16384x1024 .f32) :
    Good x (fn_part3 (F := Ideal) x v24 v41 v55) := by
  delta fn_part3
  exact good_4 x _ _ _ _ _ _

/-- The precondition from part 2 on makes the coordinates real numbers, as it ends in part 3. -/
theorem good_2 (x : FVec Ideal S16384x256 .f32) (v0 : FVec Ideal S1024x256 .f32) (v24 : IVec S_ 1) (v28 : FVec Ideal S1024x256 .f32) (v32 : FVec Ideal S1024 .f32) (v35 : FVec Ideal S1024x1 .f32) :
    Good x (fn_part2 (F := Ideal) x v0 v24 v28 v32 v35) := by
  delta fn_part2
  exact good_3 x _ _ _

/-- The precondition from part 1 on makes the coordinates real numbers, as it ends in part 2. -/
theorem good_1 (x : FVec Ideal S16384x256 .f32) (v0 : FVec Ideal S1024x256 .f32) (v14 : FVec Ideal S16384x1024 .f32) (v19 : IVec S16384x1024 32) :
    Good x (fn_part1 (F := Ideal) x v0 v14 v19) := by
  delta fn_part1
  exact good_2 x _ _ _ _ _

/-- Where the precondition holds, every coordinate of every point is a real number. -/
theorem finite (x : FVec Ideal S16384x256 .f32) : Good x (Cert.Pre_distinct.fn (F := Ideal) x) := by
  delta Cert.Pre_distinct.fn
  exact good_1 x _ _ _

end Cert.Proof.Value

end
-- ==== Proof.lean ====
/-
  The certificate's proof: the claims assembled from the kernel's runs (Proof/P/Run.lean, Proof/PI/Run.lean), the
  reference's (Proof/RI/Run.lean), and the equation of their results (Proof/Value/Equation.lean).
-/
module

public import proofs.«01_k».proof.Defs
public import proofs.«01_k».proof.Proof.P.Run
public import proofs.«01_k».proof.Proof.PI.Run
public import proofs.«01_k».proof.Proof.RI.Run
public import proofs.«01_k».proof.Proof.Value.Equation
public import proofs.«01_k».proof.Proof.Value.Finite

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_distinct.Facts := Cert.Pre_distinct.Gen.facts

/-- The kernel as it is runs, leaves its argument as launched, and ends with every counter at zero. -/
theorem kernel_frame : Cert.quiescent_Kernel := fun m g _ =>
  (θ_run Cert.Kernel.defs _ _).mono (fun _ h => ⟨fun c => (h.1 c).2, h.2⟩) (P.run m g)

/-- The same, where the points are finite and have one nearest centroid each. -/
theorem kernel_frame_distinct : Cert.quiescent_Kernel_pre_distinct := fun m g _ =>
  (θ_run Cert.Kernel.defs _ _).mono (fun _ h => ⟨fun c => (h.1 c).2, h.2⟩) (P.run m g)

/-- The idealized kernel runs, leaves its argument as launched, and ends with every counter at zero. -/
theorem ideal_frame : Cert.quiescent_KernelIdeal := fun m g _ =>
  (θ_run Cert.KernelIdeal.defs _ _).mono (fun _ h => ⟨fun c => (h.1 c).2, h.2⟩) (PI.run m g)

/-- The reference runs, leaves its argument as launched, and ends with every counter at zero. -/
theorem reference_frame : Cert.quiescent_ReferenceIdeal := fun m g _ =>
  (θ_run Cert.ReferenceIdeal.defs _ _).mono (fun _ h => ⟨fun c => (h.1 c).2, h.2⟩) (RI.run m g)

/-- The same, where the points are finite and have one nearest centroid each. -/
theorem reference_frame_distinct : Cert.quiescent_ReferenceIdeal_pre_distinct := fun m g _ =>
  (θ_run Cert.ReferenceIdeal.defs _ _).mono (fun _ h => ⟨fun c => (h.1 c).2, h.2⟩) (RI.run m g)

/-- Over the extended reals, from equal points, the idealized kernel and the reference end with equal assignments:
    at every device, `PI.out` of the kernel's points. -/
theorem same_assignment : Cert.algebraic_KernelIdeal_ReferenceIdeal := fun m g m' g' hpre hm =>
  ⟨fun c => PI.out (m ((c.tc : Thread Cert.KernelIdeal.nD Cert.KernelIdeal.τ).loc Cert.KernelIdeal.main_arg0)),
    (θ_run Cert.KernelIdeal.defs _ _).mono (fun _ h c => h.1 c) (PI.run m g),
    (θ_run Cert.ReferenceIdeal.defs _ _).mono
      (fun _ h c => ⟨(h.1 c).1.trans ((congrArg RI.out (hm c)).trans (Value.out_eq _ (Value.finite _ (hpre c))).symm), (h.1 c).2⟩)
      (RI.run m' g')⟩

/-- Everything claimed. -/
theorem claim : Cert.Claim :=
  ⟨Cert.Kernel.Gen.facts, Cert.KernelIdeal.Gen.facts, Cert.ReferenceIdeal.Gen.facts, Cert.Pre_distinct.Gen.facts,
    kernel_frame, kernel_frame_distinct, ideal_frame, reference_frame, reference_frame_distinct, trivial, same_assignment⟩

end Cert.Proof

end
